-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S3x1024x4096 : Shape := ⟨3, ![3, 1024, 4096]⟩
abbrev S2x256x4096 : Shape := ⟨3, ![2, 256, 4096]⟩
abbrev S3 : Shape := ⟨1, ![3]⟩
abbrev S12 : Shape := ⟨1, ![12]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S1x1024x4096 : Shape := ⟨3, ![1, 1024, 4096]⟩
abbrev S1024x512 : Shape := ⟨2, ![1024, 512]⟩
abbrev S1x512x4096 : Shape := ⟨3, ![1, 512, 4096]⟩
abbrev S512x4096 : Shape := ⟨2, ![512, 4096]⟩
abbrev S512x512 : Shape := ⟨2, ![512, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .bf16⟩
  | .local _ .vmem, ⟨0, _⟩ => ⟨S4096x512, .bf16⟩
  | .local _ .vmem, ⟨1, _⟩ => ⟨S3x1024x4096, .bf16⟩
  | .local _ .vmem, ⟨2, _⟩ => ⟨S1024x4096, .bf16⟩
  | .local _ .vmem, ⟨3, _⟩ => ⟨S2x256x4096, .f32⟩
  | .local _ .vmem, ⟨4, _⟩ => ⟨S4096x512, .bf16⟩
  | .local _ .vmem, ⟨5, _⟩ => ⟨S4096x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_49 : BitVec 32 := 1#32
  let v58 : BitVec 32 := Scalar.muli v24 c1_i32_49
  let v59 : BitVec 32 := Scalar.addi c0_i32_50 v58
  v59.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_73 : BitVec 32 := 1#32
  let v84 : BitVec 32 := Scalar.muli v13 c1_i32_73
  let v85 : BitVec 32 := Scalar.addi c0_i32_74 v84
  v85.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_94 : BitVec 32 := 1#32
  let v105 : BitVec 32 := Scalar.muli v24 c1_i32_94
  let v106 : BitVec 32 := Scalar.addi c0_i32_95 v105
  v106.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_114 : BitVec 32 := 1#32
  let v126 : BitVec 32 := Scalar.muli v13 c1_i32_114
  let v127 : BitVec 32 := Scalar.addi c0_i32_115 v126
  v127.toNat
def k0_dev7 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_125 : BitVec 32 := 1#32
  let v136 : BitVec 32 := Scalar.muli v24 c1_i32_125
  let v137 : BitVec 32 := Scalar.addi c0_i32_126 v136
  v137.toNat
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_135 : BitVec 32 := 1#32
  let v146 : BitVec 32 := Scalar.muli v13 c1_i32_135
  let v147 : BitVec 32 := Scalar.addi c0_i32_136 v146
  v147.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v169 : BitVec 32 := Scalar.muli v2 c1024_i32
  let c0_i32_152 : BitVec 32 := 0#32
  let v170 : BitVec 32 := Scalar.addi v169 c0_i32_152
  let v171 : Index := Scalar.indexCast v170
  let c0_153 : Index := 0#32
  ![v171.toNat, 0]
def k0_dev9 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_168 : BitVec 32 := 1#32
  let v181 : BitVec 32 := Scalar.muli v24 c1_i32_168
  let v182 : BitVec 32 := Scalar.addi c0_i32_169 v181
  v182.toNat
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_188 : BitVec 32 := 1#32
  let v199 : BitVec 32 := Scalar.muli v24 c1_i32_188
  let v200 : BitVec 32 := Scalar.addi c0_i32_189 v199
  v200.toNat
def k0_dev11 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_196 : BitVec 32 := 1#32
  let v209 : BitVec 32 := Scalar.muli v24 c1_i32_196
  let v210 : BitVec 32 := Scalar.addi c0_i32_197 v209
  v210.toNat
def k0_dev12 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_218 : BitVec 32 := 1#32
  let v227 : BitVec 32 := Scalar.muli v13 c1_i32_218
  let v228 : BitVec 32 := Scalar.addi c0_i32_219 v227
  v228.toNat
def k0_dev13 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_238 : BitVec 32 := 1#32
  let v245 : BitVec 32 := Scalar.muli v13 c1_i32_238
  let v246 : BitVec 32 := Scalar.addi c0_i32_239 v245
  v246.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_247 : BitVec 32 := 1#32
  let v255 : BitVec 32 := Scalar.muli v13 c1_i32_247
  let v256 : BitVec 32 := Scalar.addi c0_i32_248 v255
  v256.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_261 : BitVec 32 := 1024#32
  let v272 : BitVec 32 := Scalar.muli v13 c1024_i32_261
  let c0_i32_262 : BitVec 32 := 0#32
  let v273 : BitVec 32 := Scalar.addi v272 c0_i32_262
  let v274 : Index := Scalar.indexCast v273
  let c0_263 : Index := 0#32
  ![v274.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_270 : BitVec 32 := 1024#32
  let v283 : BitVec 32 := Scalar.muli v24 c1024_i32_270
  let c512_i32_271 : BitVec 32 := 512#32
  let v284 : BitVec 32 := Scalar.addi v283 c512_i32_271
  let v285 : Index := Scalar.indexCast v284
  let c0_272 : Index := 0#32
  ![v285.toNat, 0]
def k0_off4 (d0 : Dev nD) (c512_i32_291 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_290 : BitVec 32 := 1024#32
  let v302 : BitVec 32 := Scalar.muli v13 c1024_i32_290
  let v303 : BitVec 32 := Scalar.addi v302 c512_i32_291
  let v304 : Index := Scalar.indexCast v303
  let c0_292 : Index := 0#32
  ![v304.toNat, 0]
def k0_off5 (d0 : Dev nD) (c1_i32_6 : BitVec 32) (c256_i32_311 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_310 : BitVec 32 := 1024#32
  let v321 : BitVec 32 := Scalar.muli v24 c1024_i32_310
  let v322 : BitVec 32 := Scalar.addi v321 c256_i32_311
  let v323 : Index := Scalar.indexCast v322
  let c0_312 : Index := 0#32
  ![v323.toNat, 0]
def k0_off5_at (r : Fin 6) : BitVec 32 × BitVec 32 :=
  if r.val < 3 then
    if r.val < 1 then
      (1#32, 256#32)
    else
      if r.val < 2 then
        (2#32, 0#32)
      else
        (2#32, 768#32)
  else
    if r.val < 4 then
      (2#32, 256#32)
    else
      if r.val < 5 then
        (2#32, 512#32)
      else
        (1#32, 0#32)
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Common.lean ====
/-
The protocol of the kernel, as proof data: the ring of four devices, the quarters of the buffers the transfers move,
the contents each quarter holds once written, the schedule of the semaphore cells (what each raise hands over), the
levels, and what each device owes.

A device's twelve addressed transfers are numbered by their semaphore index `j`. Transfers 0–3 and 8, 9 go to the next
device of the ring, the other six to the previous one. Transfers 0–7 send a quarter of the device's own cast rows;
8, 9, 10, 11 forward the quarters that transfers 0, 1, 7, 6 brought.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = nxt (nxt c) := by revert c; decide

def ring : Dev nD ≃ Dev nD := ⟨nxt, prv, prv_nxt, nxt_prv⟩

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide

/-! ## The transfers -/

/-- Transfer `j` goes to the right. -/
def right : Fin 12 → Bool := ![true, true, true, true, false, false, false, false, true, true, false, false]
/-- The layer of the gather buffer transfer `j` lands in, and its first row there. -/
def lay : Fin 12 → ℕ := ![0, 0, 0, 0, 1, 1, 1, 1, 2, 2, 2, 2]
def row : Fin 12 → ℕ := ![0, 256, 512, 768, 0, 256, 512, 768, 0, 256, 768, 512]
/-- The transfer whose landing transfer `j` forwards (for `j ≥ 8`). -/
def fwd : Fin 12 → Fin 12 := ![0, 0, 0, 0, 0, 0, 0, 0, 0, 1, 7, 6]

/-- Whom `c`'s transfer `j` goes to, -/
def tgt (c : Dev nD) (j : Fin 12) : Dev nD := if right j then nxt c else prv c
/-- and who sends `c` its `j`-th landing. -/
def src (c : Dev nD) (j : Fin 12) : Dev nD := if right j then prv c else nxt c

theorem src_tgt (c : Dev nD) (j : Fin 12) : src (tgt c j) j = c := by revert c j; decide
theorem tgt_src (c : Dev nD) (j : Fin 12) : tgt (src c j) j = c := by revert c j; decide

theorem lay_lt (j : Fin 12) : lay j < 3 := by revert j; decide
theorem row_le (j : Fin 12) : row j + 256 ≤ 1024 := by revert j; decide

theorem cq_inb (j : Fin 12) : ∀ a, (![lay j, row j, 0] : Fin 3 → ℕ) a + S1x256x4096.size a ≤ S3x1024x4096.size a := by
  revert j; decide
theorem xq_inb (q : Fin 4) : ∀ a, (![256 * q.val, 0] : Fin 2 → ℕ) a + S256x4096.size a ≤ S1024x4096.size a := by
  revert q; decide
theorem sq_inb (s : Fin 2) : ∀ a, (![s.val, 0, 0] : Fin 3 → ℕ) a + S1x256x4096.size a ≤ S2x256x4096.size a := by
  revert s; decide

/-- The quarter of the gather buffer transfer `j` lands in. -/
abbrev cq (j : Fin 12) : Memref sig .tc .vmem S256x4096 .bf16 :=
  ((Memref.whole cc0_scratch0 : Memref sig .tc .vmem S3x1024x4096 .bf16).slice
    (Rect.unit (s := S3x1024x4096) ![lay j, row j, 0] S1x256x4096.size (cq_inb j)) (fun _ => rfl)).squeeze S256x4096 squeezes_S1x256x4096_S256x4096
/-- Quarter `q` of the cast rows, -/
abbrev xq (q : Fin 4) : Memref sig .tc .vmem S256x4096 .bf16 :=
  (Memref.whole cc0_scratch1 : Memref sig .tc .vmem S1024x4096 .bf16).slice (Rect.unit (s := S1024x4096) ![256 * q.val, 0] S256x4096.size (xq_inb q)) (fun _ => rfl)
/-- of the argument's rows, -/
abbrev aq (q : Fin 4) : Memref sig .tc .hbm S256x4096 .f32 :=
  (Memref.whole main_arg0 : Memref sig .tc .hbm S1024x4096 .f32).slice (Rect.unit (s := S1024x4096) ![256 * q.val, 0] S256x4096.size (xq_inb q)) (fun _ => rfl)
/-- and slot `s` of the buffer they are staged in. -/
abbrev sq (s : Fin 2) : Memref sig .tc .vmem S256x4096 .f32 :=
  ((Memref.whole cc0_scratch2 : Memref sig .tc .vmem S2x256x4096 .f32).slice
    (Rect.unit (s := S2x256x4096) ![s.val, 0, 0] S1x256x4096.size (sq_inb s)) (fun _ => rfl)).squeeze S256x4096 squeezes_S1x256x4096_S256x4096

/-- The cells of those views, by membership. -/
theorem mem_cq {j : Fin 12} {i : S3x1024x4096.Idx} :
    i ∈ (cq j).view.set ↔ (i 0).val = lay j ∧ row j ≤ (i 1).val ∧ (i 1).val < row j + 256 := by
  have e : (cq j).view.set = (Rect.unit (s := S3x1024x4096) ![lay j, row j, 0] S1x256x4096.size (cq_inb j)).set :=
    (View.set_reshape _ _).trans (View.set_slice_whole _ _)
  rw [e, Rect.mem_set_unit]
  have h2 := (i 2).isLt
  constructor
  · intro h
    have h0 := h 0; have h1 := h 1
    simp only [Matrix.cons_val_zero, Matrix.cons_val_one] at h0 h1
    refine ⟨?_, ?_, ?_⟩
    · exact Nat.le_antisymm (Nat.lt_succ_iff.mp h0.2) h0.1
    · exact h1.1
    · exact h1.2
  · rintro ⟨h0, h1, h1'⟩ a
    fin_cases a
    · exact ⟨h0.ge, Nat.lt_succ_iff.mpr h0.le⟩
    · exact ⟨h1, h1'⟩
    · exact ⟨Nat.zero_le _, by simpa using h2⟩

theorem mem_xq {q : Fin 4} {i : S1024x4096.Idx} :
    i ∈ (xq q).view.set ↔ 256 * q.val ≤ (i 0).val ∧ (i 0).val < 256 * q.val + 256 := by
  have e : (xq q).view.set = (Rect.unit (s := S1024x4096) ![256 * q.val, 0] S256x4096.size (xq_inb q)).set := View.set_slice_whole _ _
  rw [e, Rect.mem_set_unit]
  have h2 := (i 1).isLt
  constructor
  · intro h; exact h 0
  · rintro h a
    fin_cases a
    · exact h
    · exact ⟨Nat.zero_le _, by simpa using h2⟩
theorem aq_set (q : Fin 4) : (aq q).view.set = (Rect.unit (s := S1024x4096) ![256 * q.val, 0] S256x4096.size (xq_inb q)).set := View.set_slice_whole _ _
theorem xq_set (q : Fin 4) : (xq q).view.set = (Rect.unit (s := S1024x4096) ![256 * q.val, 0] S256x4096.size (xq_inb q)).set := View.set_slice_whole _ _

theorem mem_sq {s : Fin 2} {i : S2x256x4096.Idx} : i ∈ (sq s).view.set ↔ (i 0).val = s.val := by
  have e : (sq s).view.set = (Rect.unit (s := S2x256x4096) ![s.val, 0, 0] S1x256x4096.size (sq_inb s)).set :=
    (View.set_reshape _ _).trans (View.set_slice_whole _ _)
  rw [e, Rect.mem_set_unit]
  have h1 := (i 1).isLt; have h2 := (i 2).isLt
  constructor
  · intro h; exact Nat.le_antisymm (Nat.lt_succ_iff.mp (h 0).2) (h 0).1
  · rintro h a
    fin_cases a
    · exact ⟨h.ge, Nat.lt_succ_iff.mpr h.le⟩
    · exact ⟨Nat.zero_le _, by simpa using h1⟩
    · exact ⟨Nat.zero_le _, by simpa using h2⟩

/-! ## The semaphores -/

abbrev barS : Sem sig := (SemArray.scalar (sig.barrier 0 rfl) : Sems sig S_).sem
set_option backward.proofsInPublic true in
/-- Transfer `j`'s send and receive semaphores, -/
def sS (j : Fin 12) : DmaSem sig := (⟨4 + j.val, by omega⟩ : Fin 28)
set_option backward.proofsInPublic true in
def rS (j : Fin 12) : DmaSem sig := (⟨16 + j.val, by omega⟩ : Fin 28)
set_option backward.proofsInPublic true in
/-- and the semaphores of the device's own copies: the two slots and the weight block. -/
def lS (l : Fin 3) : DmaSem sig := (⟨1 + l.val, by omega⟩ : Fin 28)

abbrev barCell (c : Dev nD) : GSem nD τ sig := ((c : Thread nD τ), .reg barS)
abbrev dCell (c : Dev nD) (k : DmaSem sig) : GSem nD τ sig := ((c : Thread nD τ), .dma k)

/-- The credits: a quarter in bf16, in f32, and the weight block in f32. -/
abbrev NB : ℕ := (cq 0).view.dmaCredit
abbrev NX : ℕ := (sq 0).view.dmaCredit
abbrev NW : ℕ := (Memref.whole cc0_scratch4 : Memref sig .tc .vmem S4096x512 .f32).view.dmaCredit
theorem NB_pos : 0 < NB := View.dmaCredit_pos _ (by decide)
theorem NX_pos : 0 < NX := View.dmaCredit_pos _ (by decide)
theorem NW_pos : 0 < NW := View.dmaCredit_pos _ (by decide)
theorem cq_credit (j : Fin 12) : (cq j).view.dmaCredit = NB := rfl
theorem sq_credit (s : Fin 2) : (sq s).view.dmaCredit = NX := rfl

/-! ## Contents -/

/-- Device `c`'s rows of the first argument, and its columns of the second. -/
def Xc (c : Dev nD) : Vec F S1024x4096 .f32 := m ((c : Thread nD τ).loc main_arg0)
def Wc (c : Dev nD) : Vec F S4096x512 .f32 := m ((c : Thread nD τ).loc main_arg1)
/-- The same, cast. -/
def xbF (c : Dev nD) : Vec F S1024x4096 .bf16 := truncf .bf16 (Xc m c : FVec F S1024x4096 .f32) bitsLt_bf16_f32
def wbF (c : Dev nD) : Vec F S4096x512 .bf16 := k0_pay5 (Wc m c)
/-- What layer `l` of the gather buffer ends up holding: the rows of the device to the left, to the right, and opposite. -/
def from3 (c : Dev nD) (l : Fin 3) : Dev nD := ![prv c, nxt c, nxt (nxt c)] l
def commF (c : Dev nD) : Vec F S3x1024x4096 .bf16 := fun i => xbF m (from3 c (i 0)) (ix2 (i 1) (i 2))
/-- The slots holding quarter `q` of the rows. -/
def xsF (q : Fin 4) (c : Dev nD) : Vec F S2x256x4096 .f32 := fun i =>
  Xc m c (ix2 (⟨256 * q.val + (i 1).val, by have h : (i 1).val < 256 := (i 1).isLt; omega⟩ : Fin 1024) (i 2))

/-- Which quarter slot `s` holds in round `r`. -/
def lq (s : Fin 2) (r : ℕ) : Fin 4 := if s = 0 then (if r = 0 then 0 else 1) else (if r = 0 then 3 else 2)

/-! ## The shares lent to the transfers -/

/-- The share of its source that transfer `j` borrows. -/
def lent (j : Fin 12) : PosShare TreeShare := if j.val < 4 then fullShare.left else if j.val < 8 then fullShare.right.left else fullShare.left
def qOf (j : Fin 12) : Fin 4 := ⟨j.val % 4, Nat.mod_lt _ (by decide)⟩

/-- Quarter `j` of `c`'s gather buffer holding its landing, at share `p`; -/
def cPts (c : Dev nD) (p : PosShare TreeShare) (j : Fin 12) : sProp 𝕄 :=
  (cq j).view.loc (c : Thread nD τ) ↦[(cq j).view.set]{p} commF m c
/-- the same with any contents; -/
def cAny (c : Dev nD) (j : Fin 12) : sProp 𝕄 :=
  iprop(∃ f : Buf (Elt F) ((cq j).view.loc (c : Thread nD τ)), (cq j).view.loc (c : Thread nD τ) ↦[(cq j).view.set]{fullShare} f)
/-- quarter `q` of `c`'s cast rows; -/
def xPts (c : Dev nD) (p : PosShare TreeShare) (q : Fin 4) : sProp 𝕄 :=
  (xq q).view.loc (c : Thread nD τ) ↦[(xq q).view.set]{p} xbF m c
/-- slot `s` holding quarter `q`; -/
def sPts (c : Dev nD) (s : Fin 2) (q : Fin 4) : sProp 𝕄 :=
  (sq s).view.loc (c : Thread nD τ) ↦[(sq s).view.set]{fullShare} xsF m q c
/-- quarter `q` of the argument's rows; -/
def aPts (c : Dev nD) (q : Fin 4) : sProp 𝕄 :=
  (aq q).view.loc (c : Thread nD τ) ↦[(aq q).view.set]{fullShare} Xc m c
abbrev wM : Memref sig .tc .hbm S4096x512 .f32 := Memref.whole main_arg1
abbrev wsM : Memref sig .tc .vmem S4096x512 .f32 := Memref.whole cc0_scratch4
/-- the weight block's staging and the block itself. -/
def wsPts (c : Dev nD) : sProp 𝕄 := wsM.view.loc (c : Thread nD τ) ↦[wsM.view.set]{fullShare} Wc m c
def wPts (c : Dev nD) : sProp 𝕄 := wM.view.loc (c : Thread nD τ) ↦[wM.view.set]{fullShare} Wc m c

omit [FloatOps F] in
instance cAny_storable (c : Dev nD) (j) : BI.Storable (upEmb : UEmb _ 𝕄) (cAny (F := F) c j) := by unfold cAny; infer_instance
instance cPts_storable (c : Dev nD) (p j) : BI.Storable (upEmb : UEmb _ 𝕄) (cPts m c p j) := by unfold cPts; infer_instance
instance xPts_storable (c : Dev nD) (p q) : BI.Storable (upEmb : UEmb _ 𝕄) (xPts m c p q) := by unfold xPts; infer_instance
omit [FloatOps F] in
instance sPts_storable (c : Dev nD) (s q) : BI.Storable (upEmb : UEmb _ 𝕄) (sPts m c s q) := by unfold sPts; infer_instance
omit [FloatOps F] in
instance aPts_storable (c : Dev nD) (q) : BI.Storable (upEmb : UEmb _ 𝕄) (aPts m c q) := by unfold aPts; infer_instance
omit [FloatOps F] in
instance wsPts_storable (c : Dev nD) : BI.Storable (upEmb : UEmb _ 𝕄) (wsPts m c) := by unfold wsPts; infer_instance
omit [FloatOps F] in
instance wPts_storable (c : Dev nD) : BI.Storable (upEmb : UEmb _ 𝕄) (wPts m c) := by unfold wPts; infer_instance

/-! ## The schedule -/

/-- What `c`'s barrier is handed: by the device to its right (`true`) the quarters of that device's gather buffer that
    `c` writes, by the device to its left (`false`) the quarters of that one's. -/
def barPay (c : Dev nD) (d : Bool) : sProp 𝕄 :=
  if d then iprop(cAny (tgt c 0) 0 ∗ cAny (tgt c 1) 1 ∗ cAny (tgt c 2) 2 ∗ cAny (tgt c 3) 3 ∗ cAny (tgt c 8) 8 ∗ cAny (tgt c 9) 9)
  else iprop(cAny (tgt c 4) 4 ∗ cAny (tgt c 5) 5 ∗ cAny (tgt c 6) 6 ∗ cAny (tgt c 7) 7 ∗ cAny (tgt c 10) 10 ∗ cAny (tgt c 11) 11)
/-- What a receive hands over: the landing. -/
def recvPay (c : Dev nD) (j : Fin 12) : sProp 𝕄 := cPts m c fullShare j
/-- What a send hands back: the share of its source it borrowed. -/
def sendPay (c : Dev nD) (j : Fin 12) : sProp 𝕄 := if j.val < 8 then xPts m c (lent j) (qOf j) else cPts m c (lent j) (fwd j)
/-- What a slot's copy hands over in round `r`: the slot written, and the rows back. -/
def slotPay (c : Dev nD) (s : Fin 2) (r : ℕ) : sProp 𝕄 := iprop(sPts m c s (lq s r) ∗ aPts m c (lq s r))
def wPay (c : Dev nD) : sProp 𝕄 := iprop(wsPts m c ∗ wPts m c)

omit [FloatOps F] in
instance barPay_storable (c : Dev nD) (d) : BI.Storable (upEmb : UEmb _ 𝕄) (barPay (F := F) c d) := by
  unfold barPay; split <;> infer_instance
instance recvPay_storable (c : Dev nD) (j) : BI.Storable (upEmb : UEmb _ 𝕄) (recvPay m c j) := by unfold recvPay; infer_instance
instance sendPay_storable (c : Dev nD) (j) : BI.Storable (upEmb : UEmb _ 𝕄) (sendPay m c j) := by
  unfold sendPay; split <;> infer_instance
omit [FloatOps F] in
instance slotPay_storable (c : Dev nD) (s r) : BI.Storable (upEmb : UEmb _ 𝕄) (slotPay m c s r) := by unfold slotPay; infer_instance
omit [FloatOps F] in
instance wPay_storable (c : Dev nD) : BI.Storable (upEmb : UEmb _ 𝕄) (wPay m c) := by unfold wPay; infer_instance

/-- What a DMA cell's index is for. -/
inductive Use where
  | none | slot (s : Fin 2) | weight | send (j : Fin 12) | recv (j : Fin 12)

set_option backward.proofsInPublic true in
def useOf (k : Fin 28) : Use :=
  if h0 : k.val = 0 then .none else if h3 : k.val < 3 then .slot ⟨k.val - 1, by omega⟩ else if h4 : k.val < 4 then .weight
  else if h16 : k.val < 16 then .send ⟨k.val - 4, by omega⟩ else .recv ⟨k.val - 16, by omega⟩

theorem useOf_sS (j : Fin 12) : useOf (sS j) = .send j := by
  unfold useOf sS
  rw [dif_neg (by simp only; omega), dif_neg (by simp only; omega), dif_neg (by simp only; omega), dif_pos (by simp only; omega)]
  congr 1; apply Fin.ext; simp only; omega
theorem useOf_rS (j : Fin 12) : useOf (rS j) = .recv j := by
  unfold useOf rS
  rw [dif_neg (by simp only; omega), dif_neg (by simp only; omega), dif_neg (by simp only; omega), dif_neg (by simp only; omega)]
  congr 1; apply Fin.ext; simp only; omega
set_option backward.proofsInPublic true in
/-- The slots' copies use the first two of the local semaphores. -/
def slS (s : Fin 2) : DmaSem sig := (⟨1 + s.val, by omega⟩ : Fin 28)
set_option backward.proofsInPublic true in
def wlS : DmaSem sig := (⟨3, by omega⟩ : Fin 28)
theorem useOf_slS (s : Fin 2) : useOf (slS s) = .slot s := by fin_cases s <;> rfl
theorem useOf_wlS : useOf wlS = .weight := rfl

def dutiesOf : SemLoc sig → ℕ → Finset Bool
  | .reg _, r => if r = 0 then Finset.univ else ∅
  | .dma k, r => match useOf k with
    | .none => ∅
    | .slot _ => if r < 2 then {false} else ∅
    | _ => if r = 0 then {false} else ∅
def amountOf : SemLoc sig → ℕ
  | .reg _ => 1
  | .dma k => match useOf k with
    | .slot _ => NX
    | .weight => NW
    | _ => NB
def payOf (c : Dev nD) : SemLoc sig → ℕ → Bool → sProp 𝕄
  | .reg _, _, d => barPay c d
  | .dma k, r, _ => match useOf k with
    | .none => iprop(emp)
    | .slot s => slotPay m c s r
    | .weight => wPay m c
    | .send j => sendPay m c j
    | .recv j => recvPay m c j

/-- The schedule of all the cells. -/
def Rd : Rounds.Schedule (GSem nD τ sig) Bool 𝕄 where
  duties g r := if g.1.2 = .tc then dutiesOf g.2 r else ∅
  unitless _ := False
  amount g _ _ := amountOf g.2
  payload g r d := payOf m g.1.1 g.2 r d
  amount_pos g _ _ _ := by
    unfold amountOf
    split
    · exact Nat.one_pos
    · split
      · exact NX_pos
      · exact NW_pos
      · exact NB_pos

instance Rd_storable (g : GSem nD τ sig) (r : ℕ) (d : Bool) : BI.Storable (upEmb : UEmb _ 𝕄) ((Rd m).payload g r d) := by
  show BI.Storable upEmb (payOf m g.1.1 g.2 r d)
  unfold payOf
  split
  · infer_instance
  · split <;> infer_instance

section Sched
variable (c : Dev nD)

theorem duties_bar : (Rd m).duties (barCell c) 0 = Finset.univ := rfl
theorem duties_dma (k : DmaSem sig) (r : ℕ) : (Rd m).duties (dCell c k) r = dutiesOf (.dma k) r := rfl
theorem duties_send (j : Fin 12) : (Rd m).duties (dCell c (sS j)) 0 = {false} := by
  rw [duties_dma]; simp only [dutiesOf, useOf_sS]; rfl
theorem duties_recv (j : Fin 12) : (Rd m).duties (dCell c (rS j)) 0 = {false} := by
  rw [duties_dma]; simp only [dutiesOf, useOf_rS]; rfl
theorem duties_slot (s : Fin 2) (r : ℕ) (hr : r < 2) : (Rd m).duties (dCell c (slS s)) r = {false} := by
  rw [duties_dma]; simp only [dutiesOf, useOf_slS]; exact if_pos hr
theorem duties_w : (Rd m).duties (dCell c wlS) 0 = {false} := by
  rw [duties_dma]; simp only [dutiesOf, useOf_wlS]; rfl
theorem duties_later (g : GSem nD τ sig) : ∀ r, 2 ≤ r → (Rd m).duties g r = ∅ := fun r hr => by
  show (if g.1.2 = .tc then dutiesOf g.2 r else ∅) = ∅
  split
  · unfold dutiesOf
    split
    · exact if_neg (by omega)
    · split
      · rfl
      · exact if_neg (by omega)
      · exact if_neg (by omega)
  · rfl
/-- Every cell but a slot's has one round. -/
theorem duties_later1 (k : DmaSem sig) (hk : ∀ s, useOf k ≠ .slot s) : ∀ r, 1 ≤ r → (Rd m).duties (dCell c k) r = ∅ := fun r hr => by
  rw [duties_dma]
  cases h : useOf k with
  | slot s => exact absurd h (hk s)
  | _ => simp only [dutiesOf, h]; try exact if_neg (by omega)
theorem duties_later_bar : ∀ r, 1 ≤ r → (Rd m).duties (barCell c) r = ∅ := fun r hr => if_neg (by omega)

theorem amount_bar (r) (d : Bool) : (Rd m).amount (barCell c) r d = 1 := rfl
theorem amount_send (j : Fin 12) (r) (d : Bool) : (Rd m).amount (dCell c (sS j)) r d = NB := by
  show amountOf (.dma (sS j)) = NB; simp only [amountOf, useOf_sS]
theorem amount_recv (j : Fin 12) (r) (d : Bool) : (Rd m).amount (dCell c (rS j)) r d = NB := by
  show amountOf (.dma (rS j)) = NB; simp only [amountOf, useOf_rS]
theorem amount_slot (s : Fin 2) (r) (d : Bool) : (Rd m).amount (dCell c (slS s)) r d = NX := by
  show amountOf (.dma (slS s)) = NX; simp only [amountOf, useOf_slS]
theorem amount_w (r) (d : Bool) : (Rd m).amount (dCell c wlS) r d = NW := by
  show amountOf (.dma wlS) = NW; simp only [amountOf, useOf_wlS]

theorem payload_send (j : Fin 12) (r) (d : Bool) : (Rd m).payload (dCell c (sS j)) r d = sendPay m c j := by
  show payOf m c (.dma (sS j)) r d = _; simp only [payOf, useOf_sS]
theorem payload_recv (j : Fin 12) (r) (d : Bool) : (Rd m).payload (dCell c (rS j)) r d = recvPay m c j := by
  show payOf m c (.dma (rS j)) r d = _; simp only [payOf, useOf_rS]
theorem payload_slot (s : Fin 2) (r) (d : Bool) : (Rd m).payload (dCell c (slS s)) r d = slotPay m c s r := by
  show payOf m c (.dma (slS s)) r d = _; simp only [payOf, useOf_slS]
theorem payload_w (r) (d : Bool) : (Rd m).payload (dCell c wlS) r d = wPay m c := by
  show payOf m c (.dma wlS) r d = _; simp only [payOf, useOf_wlS]
theorem payload_bar (r) (d : Bool) : (Rd m).payload (barCell c) r d = barPay c d := rfl

theorem expect_bar : (Rd m).expect (barCell c) 0 = 2 := by
  unfold Schedule.expect Schedule.amountOf
  rw [duties_bar, Finset.sum_congr rfl fun d _ => amount_bar m c 0 d, Finset.sum_const, Finset.card_univ, Fintype.card_bool, smul_eq_mul]

/-- A cell with the one duty `false` in a round expects that duty's amount, and hands over that duty's payload. -/
theorem expect_one {g : GSem nD τ sig} {r n : ℕ} (hd : (Rd m).duties g r = {false}) (ha : (Rd m).amount g r false = n) :
    0 + n = (Rd m).expect g r := by
  unfold Schedule.expect Schedule.amountOf; rw [hd, Finset.sum_singleton, ha, Nat.zero_add]
theorem rest_one {g : GSem nD τ sig} {r : ℕ} {P : sProp 𝕄} (hd : (Rd m).duties g r = {false}) (hp : (Rd m).payload g r false = P) :
    bigSep ((Rd m).duties g r \ ∅) (fun d => (Rd m).payload g r d) = P := by
  rw [Finset.sdiff_empty, hd, bigSep_singleton, hp]
theorem rest_bar : bigSep ((Rd m).duties (barCell c) 0 \ ∅) (fun d => (Rd m).payload (barCell c) 0 d)
    = iprop(barPay c false ∗ barPay c true) := by
  rw [Finset.sdiff_empty, duties_bar, bigSep_univ_eq_bigSepL [false, true] (by decide) (by decide), bigSepL_cons_cons, bigSepL_singleton]
  rfl

end Sched

/-! ## What each device owes; the levels -/

/-- The credits of the landings in `S`, on their targets' receive cells. -/
def Osum (c : Dev nD) (S : Finset (Fin 12)) : CellTallies nD τ sig Unit := ∑ j ∈ S, tallyAt (dCell (tgt c j) (rS j)) () NB
def O₁ (c : Dev nD) : CellTallies nD τ sig Unit := Osum c Finset.univ + tallyAt (barCell (nxt c)) () 1
def O₀ (c : Dev nD) : CellTallies nD τ sig Unit := O₁ c + tallyAt (barCell (prv c)) () 1

theorem Osum_erase (c : Dev nD) {S : Finset (Fin 12)} {j : Fin 12} (hj : j ∈ S) :
    Osum c S = Osum c (S.erase j) + tallyAt (dCell (tgt c j) (rS j)) () NB := (Finset.sum_erase_add S _ hj).symm

def L (g : GSem nD τ sig) : Finset Unit := if g.1.2 = .tc then {()} else ∅
/-- Level of a receive: 3 for those sent after a receive has been waited for, 2 for the earlier ones. -/
def rlev : Fin 12 → ℕ := ![2, 2, 2, 3, 3, 2, 2, 2, 3, 3, 3, 3]
def lvOf : SemLoc sig → ℕ
  | .reg _ => 1
  | .dma k => match useOf k with
    | .recv j => rlev j
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 12) (u) : lv (dCell c (rS j)) u = rlev j := by
  show lvOf (.dma (rS j)) = _; simp only [lvOf, useOf_rS]
theorem rlev_pos (j : Fin 12) : 0 < rlev j := by revert j; decide
theorem lv_bar (c : Dev nD) (u) : lv (barCell c) u = 1 := rfl

theorem Osum_pos {c : Dev nD} {S : Finset (Fin 12)} {g : GSem nD τ sig} {u : Unit} (h : 0 < Osum c S g u) :
    ∃ j ∈ S, g = dCell (tgt c j) (rS j) := by
  by_contra hn
  have e : Osum c S g u = 0 := by
    unfold Osum
    rw [Finset.sum_apply, Finsupp.finset_sum_apply]
    refine Finset.sum_eq_zero fun j hj => ?_
    rw [tallyAt_apply, if_neg (fun h' => hn ⟨j, hj, h'.1⟩)]
  omega
theorem O₀_pos {c : Dev nD} {g : GSem nD τ sig} {u : Unit} (h : 0 < O₀ c g u) :
    (∃ j, g = dCell (tgt c j) (rS j)) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  simp only [Nat.add_zero] at h
  obtain ⟨j, _, hj⟩ := Osum_pos h
  exact h1 ⟨j, hj⟩

omit [FloatOps F] in
/-- A device may wait on a cell of lower level than every landing it still owes. -/
theorem mayWait (c : Dev nD) (sm : SemLoc sig) (S : Finset (Fin 12)) (hS : ∀ j ∈ S, lvOf sm < rlev j) :
    (levAts L lv : sProp 𝕄) ⊢ MayWait (c : Thread nD τ) sm () (Osum c S) :=
  MayOwe.of_cut (L := L) (lev := lv) (lvOf sm) (fun p hp => by rw [Finset.mem_singleton.mp hp, L_tc]; exact Finset.mem_singleton_self _)
    (fun g u hg => by obtain ⟨j, _, rfl⟩ := Osum_pos hg; exact Finset.mem_singleton_self _)
    (fun p hp => by rw [Finset.mem_singleton.mp hp]; exact le_rfl)
    (fun g u hg => by obtain ⟨j, hj, rfl⟩ := Osum_pos hg; rw [lv_recv]; exact hS j hj)

omit [FloatOps F] in
theorem mayWait_stage (c : Dev nD) (q : DmaSem sig) (hq : lvOf (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; exact hq.le)
      (fun g u hg => by
        rcases O₀_pos hg with ⟨j, rfl⟩ | rfl | rfl
        · rw [lv_recv]; exact rlev_pos j
        · rw [lv_bar]; decide
        · rw [lv_bar]; decide)
  · rw [MayWait_zero]; iintro -; iempintro

end Cert.RingProof
-- ==== Proof.Contents.lean ====
/-
What each view reads of the contents the protocol names: a transfer lands what the target's gather buffer is to hold,
a staged slot cast is the cast rows.
-/
module

public import proofs.«01_k».proof.Proof.Common

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## Reads at an index -/

theorem read_cq (j : Fin 12) (f : Vec F S3x1024x4096 .bf16) (a : Fin 256) (b : Fin 4096) :
    (cq j).view.read (Elt F) f (ix2 a b) = f (ix3 (⟨lay j, lay_lt j⟩ : Fin 3) (⟨row j + a.val, by have := row_le j; omega⟩ : Fin 1024) b) := by
  show f ((Rect.unit (s := S3x1024x4096) ![lay j, row j, 0] S1x256x4096.size (cq_inb j)).emb (Shape.reshapeEquiv _ (ix2 a b))) = _
  rw [reshapeEquiv_ix2_1ab]
  congr 1
  funext i
  apply Fin.ext
  fin_cases i
  · show lay j + 1 * 0 = lay j; omega
  · show row j + 1 * a.val = row j + a.val; omega
  · show 0 + 1 * b.val = b.val; omega

theorem read_xq (q : Fin 4) (f : Vec F S1024x4096 .bf16) (a : Fin 256) (b : Fin 4096) :
    (xq q).view.read (Elt F) f (ix2 a b) = f (ix2 (⟨256 * q.val + a.val, by omega⟩ : Fin 1024) b) := by
  show f ((Rect.unit (s := S1024x4096) ![256 * q.val, 0] S256x4096.size (xq_inb q)).emb (ix2 a b)) = _
  congr 1
  funext i
  apply Fin.ext
  fin_cases i
  · show 256 * q.val + 1 * a.val = 256 * q.val + a.val; omega
  · show 0 + 1 * b.val = b.val; omega

theorem read_aq (q : Fin 4) (f : Vec F S1024x4096 .f32) (a : Fin 256) (b : Fin 4096) :
    (aq q).view.read (Elt F) f (ix2 a b) = f (ix2 (⟨256 * q.val + a.val, by omega⟩ : Fin 1024) b) := by
  show f ((Rect.unit (s := S1024x4096) ![256 * q.val, 0] S256x4096.size (xq_inb q)).emb (ix2 a b)) = _
  congr 1
  funext i
  apply Fin.ext
  fin_cases i
  · show 256 * q.val + 1 * a.val = 256 * q.val + a.val; omega
  · show 0 + 1 * b.val = b.val; omega

theorem read_sq (s : Fin 2) (f : Vec F S2x256x4096 .f32) (a : Fin 256) (b : Fin 4096) :
    (sq s).view.read (Elt F) f (ix2 a b) = f (ix3 s a b) := by
  show f ((Rect.unit (s := S2x256x4096) ![s.val, 0, 0] S1x256x4096.size (sq_inb s)).emb (Shape.reshapeEquiv _ (ix2 a b))) = _
  rw [reshapeEquiv_ix2_1ab]
  congr 1
  funext i
  apply Fin.ext
  fin_cases i
  · show s.val + 1 * 0 = s.val; omega
  · show 0 + 1 * a.val = a.val; omega
  · show 0 + 1 * b.val = b.val; omega

/-- Two functions on a quarter's indices agree if they agree at every pair. -/
theorem quarter_ext {α : Type} {f g : S256x4096.Idx → α} (h : ∀ (a : Fin 256) (b : Fin 4096), f (ix2 a b) = g (ix2 a b)) : f = g := by
  funext x
  have e : x = ix2 (x 0 : Fin 256) (x 1 : Fin 4096) := by funext i; fin_cases i <;> rfl
  rw [e]; exact h _ _

/-! ## What lands -/

theorem from3_x (c : Dev nD) (j : Fin 12) (hj : j.val < 8) : from3 (tgt c j) ⟨lay j, lay_lt j⟩ = c := by revert c j; decide
theorem row_x (j : Fin 12) (hj : j.val < 8) : row j = 256 * (qOf j).val := by revert j; decide
theorem from3_f (c : Dev nD) (j : Fin 12) (hj : ¬ j.val < 8) :
    from3 (tgt c j) ⟨lay j, lay_lt j⟩ = from3 c ⟨lay (fwd j), lay_lt (fwd j)⟩ := by revert c j; decide
theorem row_f (j : Fin 12) (hj : ¬ j.val < 8) : row j = row (fwd j) := by revert j; decide

/-- A quarter of the sender's cast rows is what the target's quarter is to hold; -/
theorem lands_x (c : Dev nD) (j : Fin 12) (hj : j.val < 8) :
    (xq (qOf j)).view.read (Elt F) (xbF m c) = (cq j).view.read (Elt F) (commF m (tgt c j)) := by
  refine quarter_ext fun a b => ?_
  rw [read_xq, read_cq]
  show xbF m c _ = xbF m (from3 (tgt c j) ⟨lay j, lay_lt j⟩) (ix2 (⟨row j + a.val, _⟩ : Fin 1024) b)
  rw [from3_x c j hj]
  congr 2
  apply Fin.ext; show 256 * (qOf j).val + a.val = row j + a.val; rw [row_x j hj]
/-- a forwarded quarter too. -/
theorem lands_f (c : Dev nD) (j : Fin 12) (hj : ¬ j.val < 8) :
    (cq (fwd j)).view.read (Elt F) (commF m c) = (cq j).view.read (Elt F) (commF m (tgt c j)) := by
  refine quarter_ext fun a b => ?_
  rw [read_cq, read_cq]
  show xbF m (from3 c ⟨lay (fwd j), lay_lt (fwd j)⟩) (ix2 (⟨row (fwd j) + a.val, _⟩ : Fin 1024) b)
    = xbF m (from3 (tgt c j) ⟨lay j, lay_lt j⟩) (ix2 (⟨row j + a.val, _⟩ : Fin 1024) b)
  rw [from3_f c j hj]
  congr 2
  apply Fin.ext; show row (fwd j) + a.val = row j + a.val; rw [row_f j hj]
/-- A slot's copy lands the quarter's rows. -/
theorem lands_s (c : Dev nD) (s : Fin 2) (q : Fin 4) :
    (aq q).view.read (Elt F) (Xc m c) = (sq s).view.read (Elt F) (xsF m q c) := by
  refine quarter_ext fun a b => ?_
  rw [read_aq, read_sq]
  rfl
/-- What the slot holds, cast, is the quarter of the cast rows. -/
theorem cast_s (c : Dev nD) (s : Fin 2) (q : Fin 4) :
    k0_pay1 ((Memref.whole cc0_scratch2 : Memref sig .tc .vmem S2x256x4096 .f32).view.readAt (Elt F)
        (Rect.unit (s := S2x256x4096) ![s.val, 0, 0] S1x256x4096.size (sq_inb s)).toLoadRect (xsF m q c))
      = (xq q).view.read (Elt F) (xbF m c) := by
  have e : k0_pay1 ((Memref.whole cc0_scratch2 : Memref sig .tc .vmem S2x256x4096 .f32).view.readAt (Elt F)
        (Rect.unit (s := S2x256x4096) ![s.val, 0, 0] S1x256x4096.size (sq_inb s)).toLoadRect (xsF m q c))
      = shapeCast S256x4096 (truncf .bf16 ((sq s).view.read (Elt F) (xsF m q c) : FVec F S256x4096 .f32) bitsLt_bf16_f32) shapeCasts_S256x4096_S256x4096 := rfl
  rw [e, shapeCast_self]
  refine quarter_ext fun a b => ?_
  rw [read_xq]
  show FloatOps.truncf .bf16 _ ((sq s).view.read (Elt F) (xsF m q c) (ix2 a b)) = _
  rw [read_sq]
  rfl

omit [FloatOps F] in
/-- A view written with what it reads of `g` holds `g` on its cells. -/
theorem written_eq (c : Dev nD) {sp : Space} {s : Shape} {e : EltTy} (v : View sig .tc sp s e) (q : PosShare TreeShare)
    (f g : Buf (Elt F) (v.loc (c : Thread nD τ))) :
    (v.loc (c : Thread nD τ) ↦[v.set]{q} v.write (Elt F) f (v.read (Elt F) g) Finset.univ : sProp 𝕄) = (v.loc (c : Thread nD τ) ↦[v.set]{q} g) := by
  rw [View.write_read_eq_piecewise]
  exact pointsTo_congr fun i hi => Finset.piecewise_eq_of_mem _ _ _ hi

/-- The same, the payload named otherwise. -/
theorem written_of_read (c : Dev nD) {sp : Space} {s : Shape} {e : EltTy} (v : View sig .tc sp s e) (q : PosShare TreeShare)
    (f g : Buf (Elt F) (v.loc (c : Thread nD τ))) {w : s.Idx → Elt F e} (hw : w = v.read (Elt F) g) :
    (v.loc (c : Thread nD τ) ↦[v.set]{q} v.write (Elt F) f w Finset.univ : sProp 𝕄) ⊢ (v.loc (c : Thread nD τ) ↦[v.set]{q} g) := by
  subst hw; exact Entails.of_eq (written_eq c v q f g)

end Cert.RingProof
-- ==== Proof.Rules.lean ====
/-
The rules the body's steps use: each is a rule of the rounds library at this protocol's cells, stated once for every
transfer, slot or wait of its kind.
-/
module

public import proofs.«01_k».proof.Proof.Contents

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells, and the records every device holds of all of them -/

/-- All cells of a device, by index: the barrier at 0, the DMA cells at their own indices. -/
def csem (k : Fin 28) : SemLoc sig := if k = 0 then .reg barS else .dma k
abbrev kcell (ck : Dev nD × Fin 28) : GSem nD τ sig := ((ck.1 : Thread nD τ), csem ck.2)

theorem csem_dma (k : Fin 28) (hk : k ≠ 0) : csem k = .dma k := if_neg hk
theorem csem_bar : csem 0 = .reg barS := rfl

/-- Every cell's invariant under its name, that every cell has reached round 0, and the levels. -/
def Rec (K : Dev nD × Fin 28 → ℕ) : sProp 𝕄 :=
  iprop(bigSep Finset.univ (fun ck : Dev nD × Fin 28 => iprop(cellInv ER (Rd m) (K ck) (kcell ck) ∗ reached ER (kcell ck) 0)) ∗ levAts L lv)

instance Rec_persistent (K : Dev nD × Fin 28 → ℕ) : BI.Persistent (Rec m K) := by unfold Rec; infer_instance

variable (K : Dev nD × Fin 28 → ℕ)

theorem Rec_at (ck : Dev nD × Fin 28) : Rec m K ⊢ iprop(cellInv ER (Rd m) (K ck) (kcell ck) ∗ reached ER (kcell ck) 0) := by
  unfold Rec
  exact sep_elim_left.trans (BI.bigSep_elim (Φ := fun ck : Dev nD × Fin 28 => iprop(cellInv ER (Rd m) (K ck) (kcell ck) ∗ reached ER (kcell ck) 0)) (Finset.mem_univ ck))
theorem Rec_dma (c : Dev nD) (k : Fin 28) (hk : k ≠ 0) :
    Rec m K ⊢ iprop(cellInv ER (Rd m) (K (c, k)) (dCell c k) ∗ reached ER (dCell c k) 0) := by
  have h := Rec_at m K (c, k)
  rwa [show kcell (c, k) = dCell c k from congrArg (Prod.mk _) (csem_dma k hk)] at h
theorem Rec_bar (c : Dev nD) : Rec m K ⊢ iprop(cellInv ER (Rd m) (K (c, 0)) (barCell c) ∗ reached ER (barCell c) 0) := Rec_at m K (c, 0)
theorem Rec_lev : Rec m K ⊢ (levAts L lv : sProp 𝕄) := by unfold Rec; iintro ⟨-, H⟩; iexact H

theorem sS_ne (j : Fin 12) : (sS j : Fin 28) ≠ 0 := by revert j; decide
theorem rS_ne (j : Fin 12) : (rS j : Fin 28) ≠ 0 := by revert j; decide
theorem slS_ne (s : Fin 2) : (slS s : Fin 28) ≠ 0 := by revert s; decide
theorem wlS_ne : (wlS : Fin 28) ≠ 0 := by decide

/-- What a device owes, whatever it has waited on so far. -/
def owesX (c : Dev nD) (O : CellTallies nD τ sig Unit) : sProp 𝕄 := iprop(∃ W, owes (c : Thread nD τ) O W)

/-- The weakest precondition of a device's program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules

variable {α : Type} {Q : α → sProp (MT nD τ sig Unit (Elt F) ℕ UU ℕ)} (c : Dev nD)

/-- A wait on a DMA cell for a whole round of one duty. -/
theorem wp_wait_one {k : DmaSem sig} (hk0 : (k : Fin 28) ≠ 0) {r n : ℕ} {P : sProp 𝕄}
    (hd : (Rd m).duties (dCell c k) r = {false}) (ha : (Rd m).amount (dCell c k) r false = n) (hp : (Rd m).payload (dCell c k) r false = P)
    {sp sp' : Space} {s : Shape} {e : EltTy} {sr : Memref sig .tc sp s e} {ds : Memref sig .tc sp' s e} {hsr : sr.view.WordExact} {hds : ds.view.WordExact}
    (hn : ds.view.dmaCredit = n) {kk : PUnit → Prog (TpuEff nD τ sig (Elt F) Λ₀ .tc) α}
    (S : Finset (Fin 12)) (hS : ∀ i ∈ S, lvOf (.dma k) < rlev i) :
    iprop(Rec m K ∗ cred (tallyAt (dCell c k) () n) ∗ owesX c (Osum c S) ∗ atPos ER (dCell c k) r ∅ 0)
      ⊢ iprop(((owesX c (Osum c S) ∗ atPos ER (dCell c k) (r + 1) ∅ 0 ∗ reached ER (dCell c k) (r + 1) ∗ P) -∗ WP c (kk ⟨⟩) Q)
          -∗ WP c (.op (.waitDma2 k sr ds hsr hds) kk) Q) := by
  subst hn
  unfold owesX
  iintro ⟨#HR, Hc, ⟨%W, HO⟩, Hat⟩ Hk
  ihave Hi := (Rec_dma m K c k hk0) $$ HR
  icases Hi with ⟨#Hi, -⟩
  iapply (Rounds.wp_wait_rest_token 𝒱₀ ER (Rd m) (c : Thread nD τ) none (κ := K (c, k))
      (wpE_waitDma2_eq 𝒱₀ (c : Thread nD τ) none Set.univ) (Set.mem_univ _) () (O := Osum c S) (W := W) (R := r) (m := 0) (T := ∅)
      (expect_one m hd ha)) $$ [Hc HO Hat]
  · isplitr; · iexact Hi
    isplitl [Hc]; · iexact Hc
    isplitl [HO]; · iexact HO
    isplitr; · iapply (mayWait c (.dma k) S hS); iapply (Rec_lev m K); iexact HR
    iexact Hat
  iintro ⟨HO, Hat, Hr, Hp⟩
  iapply Hk
  isplitl [HO]; · iexists _; iexact HO
  isplitl [Hat]; · iexact Hat
  isplitl [Hr]; · iexact Hr
  iapply (Entails.of_eq (rest_one m hd hp)); iexact Hp

/-- A wait on a cell of one round: what it hands over, and the cell closed. -/
theorem wp_wait_last {k : DmaSem sig} (hk0 : (k : Fin 28) ≠ 0) (hk1 : ∀ s, useOf k ≠ .slot s) {n : ℕ} {P : sProp 𝕄}
    (hd : (Rd m).duties (dCell c k) 0 = {false}) (ha : (Rd m).amount (dCell c k) 0 false = n) (hp : (Rd m).payload (dCell c k) 0 false = P)
    {sp sp' : Space} {s : Shape} {e : EltTy} {sr : Memref sig .tc sp s e} {ds : Memref sig .tc sp' s e} {hsr : sr.view.WordExact} {hds : ds.view.WordExact}
    (hn : ds.view.dmaCredit = n) {kk : PUnit → Prog (TpuEff nD τ sig (Elt F) Λ₀ .tc) α}
    (S : Finset (Fin 12)) (hS : ∀ i ∈ S, lvOf (.dma k) < rlev i) :
    iprop(Rec m K ∗ cred (tallyAt (dCell c k) () n) ∗ owesX c (Osum c S) ∗ atPos ER (dCell c k) 0 ∅ 0)
      ⊢ iprop(((owesX c (Osum c S) ∗ semVal (dCell c k) 0 ∗ P) -∗ WP c (kk ⟨⟩) Q)
          -∗ WP c (.op (.waitDma2 k sr ds hsr hds) kk) Q) := by
  iintro ⟨#HR, Hc, HO, Hat⟩ Hk
  ihave Hi := (Rec_dma m K c k hk0) $$ HR
  icases Hi with ⟨#Hi, -⟩
  iapply (wp_wait_one m K c hk0 hd ha hp hn S hS) $$ [Hc HO Hat]
  · isplitr; · iexact HR
    isplitl [Hc]; · iexact Hc
    isplitl [HO] <;> iassumption
  iintro ⟨HO, Hat, -, HP⟩
  imod (Rounds.cell_close ER (Rd m) (Set.mem_univ (K (c, k))) (fun h => h) (R := 0 + 1) (duties_later1 m c k hk1)) $$ [Hat] with Hz
  · isplitr; · iexact Hi
    iexact Hat
  iapply Hk
  isplitl [HO]; · iexact HO
  isplitl [Hz] <;> iassumption

theorem lvOf_sS (j : Fin 12) : lvOf (.dma (sS j)) = 0 := by simp only [lvOf, useOf_sS]
theorem lvOf_rS (j : Fin 12) : lvOf (.dma (rS j)) = rlev j := by simp only [lvOf, useOf_rS]
theorem lvOf_slS (s : Fin 2) : lvOf (.dma (slS s)) = 0 := by simp only [lvOf, useOf_slS]
theorem lvOf_wlS : lvOf (.dma wlS) = 0 := by simp only [lvOf, useOf_wlS]

/-- The wait on transfer `j`'s receive. -/
theorem wp_recv (j : Fin 12) {sp sp' : Space} {s : Shape} {e : EltTy} {sr : Memref sig .tc sp s e} {ds : Memref sig .tc sp' s e} {hsr : sr.view.WordExact} {hds : ds.view.WordExact}
    (hn : ds.view.dmaCredit = NB) {kk : PUnit → Prog (TpuEff nD τ sig (Elt F) Λ₀ .tc) α}
    (S : Finset (Fin 12)) (hS : ∀ i ∈ S, rlev j < rlev i) :
    iprop(Rec m K ∗ cred (tallyAt (dCell c (rS j)) () NB) ∗ owesX c (Osum c S) ∗ atPos ER (dCell c (rS j)) 0 ∅ 0)
      ⊢ iprop(((owesX c (Osum c S) ∗ semVal (dCell c (rS j)) 0 ∗ cPts m c fullShare j) -∗ WP c (kk ⟨⟩) Q)
          -∗ WP c (.op (.waitDma2 (rS j) sr ds hsr hds) kk) Q) :=
  wp_wait_last m K c (rS_ne j) (fun s => by rw [useOf_rS]; exact fun h => by cases h) (duties_recv m c j) (amount_recv m c j 0 false) (payload_recv m c j 0 false) hn S
    (fun i hi => by rw [lvOf_rS]; exact hS i hi)

/-- The wait on transfer `j`'s send. -/
theorem wp_sent (j : Fin 12) {sp sp' : Space} {s : Shape} {e : EltTy} {sr : Memref sig .tc sp s e} {ds : Memref sig .tc sp' s e} {hsr : sr.view.WordExact} {hds : ds.view.WordExact}
    (hn : ds.view.dmaCredit = NB) {kk : PUnit → Prog (TpuEff nD τ sig (Elt F) Λ₀ .tc) α}
    (S : Finset (Fin 12)) :
    iprop(Rec m K ∗ cred (tallyAt (dCell c (sS j)) () NB) ∗ owesX c (Osum c S) ∗ atPos ER (dCell c (sS j)) 0 ∅ 0)
      ⊢ iprop(((owesX c (Osum c S) ∗ semVal (dCell c (sS j)) 0 ∗ sendPay m c j) -∗ WP c (kk ⟨⟩) Q)
          -∗ WP c (.op (.waitDma2 (sS j) sr ds hsr hds) kk) Q) :=
  wp_wait_last m K c (sS_ne j) (fun s => by rw [useOf_sS]; exact fun h => by cases h) (duties_send m c j) (amount_send m c j 0 false) (payload_send m c j 0 false) hn S
    (fun i hi => by rw [lvOf_sS]; exact rlev_pos i)

/-- The wait on the weight block's copy. -/
theorem wp_wait_w {sp sp' : Space} {s : Shape} {e : EltTy} {sr : Memref sig .tc sp s e} {ds : Memref sig .tc sp' s e} {hsr : sr.view.WordExact} {hds : ds.view.WordExact}
    (hn : ds.view.dmaCredit = NW) {kk : PUnit → Prog (TpuEff nD τ sig (Elt F) Λ₀ .tc) α}
    (S : Finset (Fin 12)) :
    iprop(Rec m K ∗ cred (tallyAt (dCell c wlS) () NW) ∗ owesX c (Osum c S) ∗ atPos ER (dCell c wlS) 0 ∅ 0)
      ⊢ iprop(((owesX c (Osum c S) ∗ semVal (dCell c wlS) 0 ∗ wPay m c) -∗ WP c (kk ⟨⟩) Q)
          -∗ WP c (.op (.waitDma2 wlS sr ds hsr hds) kk) Q) :=
  wp_wait_last m K c wlS_ne (fun s => by rw [useOf_wlS]; exact fun h => by cases h) (duties_w m c) (amount_w m c 0 false) (payload_w m c 0 false) hn S
    (fun i hi => by rw [lvOf_wlS]; exact rlev_pos i)

/-- The wait on slot `s`'s copy of round `r`. -/
theorem wp_wait_slot (s : Fin 2) (r : ℕ) (hr : r < 2) {sp sp' : Space} {sh : Shape} {e : EltTy} {sr : Memref sig .tc sp sh e} {ds : Memref sig .tc sp' sh e} {hsr : sr.view.WordExact} {hds : ds.view.WordExact}
    (hn : ds.view.dmaCredit = NX) {kk : PUnit → Prog (TpuEff nD τ sig (Elt F) Λ₀ .tc) α}
    (S : Finset (Fin 12)) :
    iprop(Rec m K ∗ cred (tallyAt (dCell c (slS s)) () NX) ∗ owesX c (Osum c S) ∗ atPos ER (dCell c (slS s)) r ∅ 0)
      ⊢ iprop(((owesX c (Osum c S) ∗ atPos ER (dCell c (slS s)) (r + 1) ∅ 0 ∗ reached ER (dCell c (slS s)) (r + 1) ∗ slotPay m c s r) -∗ WP c (kk ⟨⟩) Q)
          -∗ WP c (.op (.waitDma2 (slS s) sr ds hsr hds) kk) Q) :=
  wp_wait_one m K c (slS_ne s) (duties_slot m c s r hr) (amount_slot m c s r false) (payload_slot m c s r false) hn S
    (fun i hi => by rw [lvOf_slS]; exact rlev_pos i)

/-- The copy of quarter `lq s r` into slot `s`. -/
theorem wp_slot (s : Fin 2) (r : ℕ) (hr : r < 2) {hsrc : (aq (lq s r)).view.WordExact} {hdst : (sq s).view.WordExact}
    {hsem : DmaTarget.Typed (nD := nD) .hbm (.dma (slS s)) (DmaTarget.here (p := (Proc.tc : Proc τ)) (sq s))}
    {kk : PUnit → Prog (TpuEff nD τ sig (Elt F) Λ₀ .tc) α} (fd : Buf (Elt F) ((sq s).view.loc (c : Thread nD τ))) :
    iprop(Rec m K ∗ aPts m c (lq s r) ∗ ((sq s).view.loc (c : Thread nD τ) ↦[(sq s).view.set]{fullShare} fd)
        ∗ dutyTok ER (dCell c (slS s)) r false ∗ reached ER (dCell c (slS s)) r)
      ⊢ iprop((cred (tallyAt (dCell c (slS s)) () NX) -∗ WP c (kk ⟨⟩) Q)
          -∗ WP c (.op (.enqueueDma (aq (lq s r)) (.here (sq s)) (.dma (slS s)) hsrc hdst hsem) kk) Q) := by
  iintro ⟨#HR, Ha, Hs, Ht, Hr⟩ Hk
  ihave Hi := (Rec_dma m K c (slS s) (slS_ne s)) $$ HR
  icases Hi with ⟨#Hi, -⟩
  unfold aPts
  iapply (Rounds.wp_copy_pointsTo 𝒱₀ ER (Rd m) (c : Thread nD τ) none (κ := K (c, slS s)) (fs := Xc m c) (fd := fd) (r := r) (d := false)
      (by rw [duties_slot m c s r hr]; exact Finset.mem_singleton_self _) () NX rfl (amount_slot m c s r false)
      (by rw [payload_slot]; unfold slotPay sPts aPts
          exact sep_mono_left (written_of_read c (sq s).view fullShare fd (xsF m (lq s r) c) (lands_s m c s (lq s r))))) $$ [Ha Hs Ht Hr]
  · isplitr; · iexact Hi
    isplitl [Ha]; · iexact Ha
    isplitl [Hs]; · iexact Hs
    isplitl [Ht] <;> iassumption
  iexact Hk

/-- The copy of the weight block. -/
theorem wp_weight {hsrc : wM.view.WordExact} {hdst : wsM.view.WordExact}
    {hsem : DmaTarget.Typed (nD := nD) .hbm (.dma wlS) (DmaTarget.here (p := (Proc.tc : Proc τ)) wsM)}
    {kk : PUnit → Prog (TpuEff nD τ sig (Elt F) Λ₀ .tc) α} (fd : Buf (Elt F) (wsM.view.loc (c : Thread nD τ))) :
    iprop(Rec m K ∗ wPts m c ∗ (wsM.view.loc (c : Thread nD τ) ↦[wsM.view.set]{fullShare} fd) ∗ dutyTok ER (dCell c wlS) 0 false)
      ⊢ iprop((cred (tallyAt (dCell c wlS) () NW) -∗ WP c (kk ⟨⟩) Q)
          -∗ WP c (.op (.enqueueDma wM (.here wsM) (.dma wlS) hsrc hdst hsem) kk) Q) := by
  iintro ⟨#HR, Ha, Hs, Ht⟩ Hk
  ihave Hi := (Rec_dma m K c wlS wlS_ne) $$ HR
  icases Hi with ⟨#Hi, #Hr⟩
  unfold wPts
  iapply (Rounds.wp_copy_pointsTo 𝒱₀ ER (Rd m) (c : Thread nD τ) none (κ := K (c, wlS)) (fs := Wc m c) (fd := fd) (r := 0) (d := false)
      (by rw [duties_w m c]; exact Finset.mem_singleton_self _) () NW rfl (amount_w m c 0 false)
      (by rw [payload_w]; unfold wPay wsPts wPts
          exact sep_mono_left (written_of_read c wsM.view fullShare fd (Wc m c) rfl))) $$ [Ha Hs Ht]
  · isplitr; · iexact Hi
    isplitl [Ha]; · iexact Ha
    isplitl [Hs]; · iexact Hs
    isplitl [Ht] <;> iassumption
  iexact Hk

/-- Transfer `j < 8`: a quarter of the cast rows to the target. -/
theorem wp_send_x (j : Fin 12) (hj : j.val < 8) (S : Finset (Fin 12)) (hjS : j ∈ S) {n : Dev nD} (hn : n = tgt c j)
    {hsc : (cq j : Memref sig (Dev.tc n : Thread nD τ).2.kind .vmem S256x4096 .bf16).view.ref.isScScratch = false}
    {hsrc : (xq (qOf j)).view.WordExact} {hdst : (cq j).view.WordExact}
    {hsem : DmaTarget.Typed .vmem (.dma (rS j)) (.remote (Dev.tc n : Thread nD τ) (cq j : Memref sig .tc .vmem S256x4096 .bf16) (.dma (sS j)) hsc)}
    {kk : PUnit → Prog (TpuEff nD τ sig (Elt F) Λ₀ .tc) α} :
    iprop(Rec m K ∗ xPts m c (lent j) (qOf j) ∗ cAny (tgt c j) j ∗ owesX c (Osum c S)
        ∗ dutyTok ER (dCell c (sS j)) 0 false ∗ dutyTok ER (dCell (tgt c j) (rS j)) 0 false)
      ⊢ iprop(((cred (tallyAt (dCell c (sS j)) () NB) ∗ owesX c (Osum c (S.erase j))) -∗ WP c (kk ⟨⟩) Q)
          -∗ WP c (.op (.enqueueDma (xq (qOf j)) (.remote (Dev.tc n : Thread nD τ) (cq j) (.dma (sS j)) hsc) (.dma (rS j)) hsrc hdst hsem) kk) Q) := by
  subst hn
  unfold owesX
  iintro ⟨#HR, Hx, Hd, ⟨%W, HO⟩, Ht1, Ht2⟩ Hk
  unfold cAny
  icases Hd with ⟨%fd, Hd⟩
  ihave Hi := (Rec_dma m K c (sS j) (sS_ne j)) $$ HR
  icases Hi with ⟨#Hi1, #Hr1⟩
  ihave Hi' := (Rec_dma m K (tgt c j) (rS j) (rS_ne j)) $$ HR
  icases Hi' with ⟨#Hi2, #Hr2⟩
  unfold xPts
  iapply (Rounds.wp_send_pointsTo 𝒱₀ ER (Rd m) (c : Thread nD τ) none (κ₁ := K (c, sS j)) (κ₂ := K (tgt c j, rS j))
    (r₁ := 0) (r₂ := 0) (d₁ := false) (d₂ := false) (fd := fd)
    (by rw [duties_send]; exact Finset.mem_singleton_self _) (by rw [duties_recv]; exact Finset.mem_singleton_self _)
    () () NB rfl (amount_send m c j 0 false) (amount_recv m (tgt c j) j 0 false) (Osum c (S.erase j)) (Osum_erase c hjS) (W := W)
    (by rw [payload_send]; unfold sendPay; rw [if_pos hj]; exact BI.Entails.refl _)
    (by rw [payload_recv]; unfold recvPay cPts
        exact written_of_read (tgt c j) _ _ _ _ (lands_x m c j hj))) $$ [Hx Hd HO Ht1 Ht2]
  · isplitr; · iexact Hi1
    isplitr; · iexact Hi2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Transfer `j ≥ 8`: a received quarter on to the target. -/
theorem wp_send_f (j : Fin 12) (hj : ¬ j.val < 8) (S : Finset (Fin 12)) (hjS : j ∈ S) {n : Dev nD} (hn : n = tgt c j)
    {hsc : (cq j : Memref sig (Dev.tc n : Thread nD τ).2.kind .vmem S256x4096 .bf16).view.ref.isScScratch = false}
    {hsrc : (cq (fwd j)).view.WordExact} {hdst : (cq j).view.WordExact}
    {hsem : DmaTarget.Typed .vmem (.dma (rS j)) (.remote (Dev.tc n : Thread nD τ) (cq j : Memref sig .tc .vmem S256x4096 .bf16) (.dma (sS j)) hsc)}
    {kk : PUnit → Prog (TpuEff nD τ sig (Elt F) Λ₀ .tc) α} :
    iprop(Rec m K ∗ cPts m c (lent j) (fwd j) ∗ cAny (tgt c j) j ∗ owesX c (Osum c S)
        ∗ dutyTok ER (dCell c (sS j)) 0 false ∗ dutyTok ER (dCell (tgt c j) (rS j)) 0 false)
      ⊢ iprop(((cred (tallyAt (dCell c (sS j)) () NB) ∗ owesX c (Osum c (S.erase j))) -∗ WP c (kk ⟨⟩) Q)
          -∗ WP c (.op (.enqueueDma (cq (fwd j)) (.remote (Dev.tc n : Thread nD τ) (cq j) (.dma (sS j)) hsc) (.dma (rS j)) hsrc hdst hsem) kk) Q) := by
  subst hn
  unfold owesX
  iintro ⟨#HR, Hx, Hd, ⟨%W, HO⟩, Ht1, Ht2⟩ Hk
  unfold cAny
  icases Hd with ⟨%fd, Hd⟩
  ihave Hi := (Rec_dma m K c (sS j) (sS_ne j)) $$ HR
  icases Hi with ⟨#Hi1, #Hr1⟩
  ihave Hi' := (Rec_dma m K (tgt c j) (rS j) (rS_ne j)) $$ HR
  icases Hi' with ⟨#Hi2, #Hr2⟩
  unfold cPts
  iapply (Rounds.wp_send_pointsTo 𝒱₀ ER (Rd m) (c : Thread nD τ) none (κ₁ := K (c, sS j)) (κ₂ := K (tgt c j, rS j))
    (r₁ := 0) (r₂ := 0) (d₁ := false) (d₂ := false) (fd := fd)
    (by rw [duties_send]; exact Finset.mem_singleton_self _) (by rw [duties_recv]; exact Finset.mem_singleton_self _)
    () () NB rfl (amount_send m c j 0 false) (amount_recv m (tgt c j) j 0 false) (Osum c (S.erase j)) (Osum_erase c hjS) (W := W)
    (by rw [payload_send]; unfold sendPay cPts; rw [if_neg hj])
    (by rw [payload_recv]; unfold recvPay cPts
        exact written_of_read (tgt c j) _ _ _ _ (lands_f m c j hj))) $$ [Hx Hd HO Ht1 Ht2]
  · isplitr; · iexact Hi1
    isplitr; · iexact Hi2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

end Rules

end Cert.RingProof
-- ==== Proof.Steps.lean ====
/-
One lemma per kind of step of the body: a copy into a slot, a send, a wait, a load and a store, each over the resources
that step takes and gives.
-/
module

public import proofs.«01_k».proof.Proof.Rules

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 28 → ℕ)

/-! ## The devices the transfers go to -/

theorem dev3_eq (c : Dev nD) : (⟨k0_dev3 c, k0_dev3_lt c⟩ : Dev nD) = tgt c 0 := by revert c; decide
theorem dev4_eq (c : Dev nD) : (⟨k0_dev4 c, k0_dev4_lt c⟩ : Dev nD) = tgt c 7 := by revert c; decide
theorem dev5_eq (c : Dev nD) : (⟨k0_dev5 c, k0_dev5_lt c⟩ : Dev nD) = tgt c 1 := by revert c; decide
theorem dev6_eq (c : Dev nD) : (⟨k0_dev6 c, k0_dev6_lt c⟩ : Dev nD) = tgt c 6 := by revert c; decide
theorem dev7_eq (c : Dev nD) : (⟨k0_dev7 c, k0_dev7_lt c⟩ : Dev nD) = tgt c 2 := by revert c; decide
theorem dev8_eq (c : Dev nD) : (⟨k0_dev8 c, k0_dev8_lt c⟩ : Dev nD) = tgt c 5 := by revert c; decide
theorem dev9_eq (c : Dev nD) : (⟨k0_dev9 c, k0_dev9_lt c⟩ : Dev nD) = tgt c 8 := by revert c; decide
theorem dev10_eq (c : Dev nD) : (⟨k0_dev10 c, k0_dev10_lt c⟩ : Dev nD) = tgt c 9 := by revert c; decide
theorem dev11_eq (c : Dev nD) : (⟨k0_dev11 c, k0_dev11_lt c⟩ : Dev nD) = tgt c 3 := by revert c; decide
theorem dev12_eq (c : Dev nD) : (⟨k0_dev12 c, k0_dev12_lt c⟩ : Dev nD) = tgt c 10 := by revert c; decide
theorem dev13_eq (c : Dev nD) : (⟨k0_dev13 c, k0_dev13_lt c⟩ : Dev nD) = tgt c 11 := by revert c; decide
theorem dev14_eq (c : Dev nD) : (⟨k0_dev14 c, k0_dev14_lt c⟩ : Dev nD) = tgt c 4 := by revert c; decide

/-- A quarter of the cast rows counts as a quarter of the gather buffer does. -/
theorem tile_credit (t : Table) (b : Fin (sig.nBuf t)) (s : Shape) (e : EltTy) : sig.dmaCredit .tc t b s e = RefSig.tileCredit s e := rfl
theorem xq_credit (q : Fin 4) : (xq q).view.dmaCredit = NB := (tile_credit _ _ S256x4096 .bf16).trans (tile_credit _ _ S256x4096 .bf16).symm

/-! ## Resources by transfer -/

/-- What transfer `j` takes besides its source: the target's quarter, the two duties it pays, its send cell's position. -/
def SendTok (c : Dev nD) (j : Fin 12) : sProp 𝕄 :=
  iprop(dutyTok ER (dCell c (sS j)) 0 false ∗ dutyTok ER (dCell (tgt c j) (rS j)) 0 false ∗ atPos ER (dCell c (sS j)) 0 ∅ 0)
def SendRes (c : Dev nD) (j : Fin 12) : sProp 𝕄 := iprop(cAny (tgt c j) j ∗ SendTok c j)
/-- What the wait on its send takes, -/
def Sent (c : Dev nD) (j : Fin 12) : sProp 𝕄 := iprop(cred (tallyAt (dCell c (sS j)) () NB) ∗ atPos ER (dCell c (sS j)) 0 ∅ 0)
/-- and the wait on the receive of transfer `j`. -/
def RecvRes (c : Dev nD) (j : Fin 12) : sProp 𝕄 := iprop(cred (tallyAt (dCell c (rS j)) () NB) ∗ atPos ER (dCell c (rS j)) 0 ∅ 0)
/-- A cell of the device closed. -/
def Zr (c : Dev nD) (k : DmaSem sig) : sProp 𝕄 := semVal (dCell c k) 0
/-- Slot `s` free for its copy of round `r`. -/
def SlotTok (c : Dev nD) (s : Fin 2) (r : ℕ) : sProp 𝕄 := dutyTok ER (dCell c (slS s)) r false
def SlotAt (c : Dev nD) (s : Fin 2) (r : ℕ) : sProp 𝕄 := iprop(atPos ER (dCell c (slS s)) r ∅ 0 ∗ reached ER (dCell c (slS s)) r)
def sAny (c : Dev nD) (s : Fin 2) : sProp 𝕄 :=
  iprop(∃ f : Buf (Elt F) ((sq s).view.loc (c : Thread nD τ)), (sq s).view.loc (c : Thread nD τ) ↦[(sq s).view.set]{fullShare} f)
def xAny (c : Dev nD) (q : Fin 4) : sProp 𝕄 :=
  iprop(∃ f : Buf (Elt F) ((xq q).view.loc (c : Thread nD τ)), (xq q).view.loc (c : Thread nD τ) ↦[(xq q).view.set]{fullShare} f)
abbrev xM : Memref sig .tc .hbm S1024x4096 .f32 := Memref.whole main_arg0
abbrev oM : Memref sig .tc .vmem S4096x512 .bf16 := Memref.whole cc0_stg0_0
abbrev gM : Memref sig .tc .vmem S3x1024x4096 .bf16 := Memref.whole cc0_scratch0
abbrev bM : Memref sig .tc .vmem S1024x4096 .bf16 := Memref.whole cc0_scratch1
abbrev lM : Memref sig .tc .vmem S2x256x4096 .f32 := Memref.whole cc0_scratch2
abbrev wbM : Memref sig .tc .vmem S4096x512 .bf16 := Memref.whole cc0_scratch3
def wsAny (c : Dev nD) : sProp 𝕄 :=
  iprop(∃ f : Buf (Elt F) (wsM.view.loc (c : Thread nD τ)), wsM.view.loc (c : Thread nD τ) ↦[wsM.view.set]{fullShare} f)
def wbAny (c : Dev nD) : sProp 𝕄 :=
  iprop(∃ f : Buf (Elt F) (wbM.view.loc (c : Thread nD τ)), wbM.view.loc (c : Thread nD τ) ↦[wbM.view.set]{fullShare} f)
def wbPts (c : Dev nD) : sProp 𝕄 := wbM.view.loc (c : Thread nD τ) ↦[wbM.view.set]{fullShare} wbF m c
def oPts (c : Dev nD) (f : Vec F S4096x512 .bf16) : sProp 𝕄 := oM.view.loc (c : Thread nD τ) ↦[oM.view.set]{fullShare} f

/-- A whole buffer read through its whole rectangle. -/
theorem read_wb (f : Vec F S4096x512 .bf16) :
    wbM.view.readAt (Elt F) (Rect.unit (s := S4096x512) ![0, 0] S4096x512.size inb_S4096x512_S4096x512_0_0).toLoadRect f = f :=
  Memref.readAt_unit_zero (Elt F) cc0_scratch3 (by decide) _ f
theorem read_ws (f : Vec F S4096x512 .f32) :
    wsM.view.readAt (Elt F) (Rect.unit (s := S4096x512) ![0, 0] S4096x512.size inb_S4096x512_S4096x512_0_0).toLoadRect f = f :=
  Memref.readAt_unit_zero (Elt F) cc0_scratch4 (by decide) _ f
theorem read_b (f : Vec F S1024x4096 .bf16) :
    bM.view.readAt (Elt F) (Rect.unit (s := S1024x4096) ![0, 0] S1024x4096.size inb_S1024x4096_S1024x4096_0_0).toLoadRect f = f :=
  Memref.readAt_unit_zero (Elt F) cc0_scratch1 (by decide) _ f

theorem write_wb (f w : Vec F S4096x512 .bf16) :
    (wbM.access (Rect.unit (s := S4096x512) ![0, 0] S4096x512.size inb_S4096x512_S4096x512_0_0)).write (Elt F) f w Finset.univ = w :=
  Memref.write_access_unit_zero_univ (Elt F) cc0_scratch3 (by decide) _ f w

section Steps

variable {α : Type} {Q : α → sProp (MT nD τ sig Unit (Elt F) ℕ UU ℕ)} (c : Dev nD)

/-! ## Transfers and waits -/

theorem step_send_x (j : Fin 12) (hj : j.val < 8) (S S' : Finset (Fin 12)) (hjS : j ∈ S) (hS : S.erase j = S') {n : Dev nD} (hn : n = tgt c j)
    {hsc : (cq j : Memref sig (Dev.tc n : Thread nD τ).2.kind .vmem S256x4096 .bf16).view.ref.isScScratch = false}
    {hsrc : (xq (qOf j)).view.WordExact} {hdst : (cq j).view.WordExact}
    {hsem : DmaTarget.Typed .vmem (.dma (rS j)) (.remote (Dev.tc n : Thread nD τ) (cq j : Memref sig .tc .vmem S256x4096 .bf16) (.dma (sS j)) hsc)}
    {kk : PUnit → Prog (TpuEff nD τ sig (Elt F) Λ₀ .tc) α} :
    iprop(Rec m K ∗ xPts m c (lent j) (qOf j) ∗ SendRes c j ∗ owesX c (Osum c S))
      ⊢ iprop(((Sent c j ∗ owesX c (Osum c S')) -∗ WP c (kk ⟨⟩) Q)
          -∗ WP c (.op (.enqueueDma (xq (qOf j)) (.remote (Dev.tc n : Thread nD τ) (cq j) (.dma (sS j)) hsc) (.dma (rS j)) hsrc hdst hsem) kk) Q) := by
  subst hS
  unfold SendRes SendTok Sent
  iintro ⟨#HR, Hx, ⟨Hd, Ht1, Ht2, Hat⟩, HO⟩ Hk
  iapply (wp_send_x m K c j hj S hjS hn) $$ [Hx Hd HO Ht1 Ht2]
  · isplitr; · iexact HR
    isplitl [Hx]; · iexact Hx
    isplitl [Hd]; · iexact Hd
    isplitl [HO]; · iexact HO
    isplitl [Ht1] <;> iassumption
  iintro ⟨Hc, HO⟩
  iapply Hk
  isplitl [Hc Hat]
  · isplitl [Hc] <;> iassumption
  iexact HO

theorem step_send_f (j : Fin 12) (hj : ¬ j.val < 8) (S S' : Finset (Fin 12)) (hjS : j ∈ S) (hS : S.erase j = S') {n : Dev nD} (hn : n = tgt c j)
    {hsc : (cq j : Memref sig (Dev.tc n : Thread nD τ).2.kind .vmem S256x4096 .bf16).view.ref.isScScratch = false}
    {hsrc : (cq (fwd j)).view.WordExact} {hdst : (cq j).view.WordExact}
    {hsem : DmaTarget.Typed .vmem (.dma (rS j)) (.remote (Dev.tc n : Thread nD τ) (cq j : Memref sig .tc .vmem S256x4096 .bf16) (.dma (sS j)) hsc)}
    {kk : PUnit → Prog (TpuEff nD τ sig (Elt F) Λ₀ .tc) α} :
    iprop(Rec m K ∗ cPts m c (lent j) (fwd j) ∗ SendRes c j ∗ owesX c (Osum c S))
      ⊢ iprop(((Sent c j ∗ owesX c (Osum c S')) -∗ WP c (kk ⟨⟩) Q)
          -∗ WP c (.op (.enqueueDma (cq (fwd j)) (.remote (Dev.tc n : Thread nD τ) (cq j) (.dma (sS j)) hsc) (.dma (rS j)) hsrc hdst hsem) kk) Q) := by
  subst hS
  unfold SendRes SendTok Sent
  iintro ⟨#HR, Hx, ⟨Hd, Ht1, Ht2, Hat⟩, HO⟩ Hk
  iapply (wp_send_f m K c j hj S hjS hn) $$ [Hx Hd HO Ht1 Ht2]
  · isplitr; · iexact HR
    isplitl [Hx]; · iexact Hx
    isplitl [Hd]; · iexact Hd
    isplitl [HO]; · iexact HO
    isplitl [Ht1] <;> iassumption
  iintro ⟨Hc, HO⟩
  iapply Hk
  isplitl [Hc Hat]
  · isplitl [Hc] <;> iassumption
  iexact HO

theorem step_recv (j : Fin 12) {sp : Space} {sr : Memref sig .tc sp S256x4096 .bf16} {hsr : sr.view.WordExact} {hds : (cq j).view.WordExact}
    {kk : PUnit → Prog (TpuEff nD τ sig (Elt F) Λ₀ .tc) α}
    (S : Finset (Fin 12)) (hS : ∀ i ∈ S, rlev j < rlev i) :
    iprop(Rec m K ∗ RecvRes c j ∗ owesX c (Osum c S))
      ⊢ iprop(((owesX c (Osum c S) ∗ Zr c (rS j) ∗ cPts m c fullShare j) -∗ WP c (kk ⟨⟩) Q)
          -∗ WP c (.op (.waitDma2 (rS j) sr (cq j) hsr hds) kk) Q) := by
  unfold RecvRes Zr
  iintro ⟨#HR, ⟨Hc, Hat⟩, HO⟩ Hk
  iapply (wp_recv m K c j (cq_credit j) S hS) $$ [Hc Hat HO]
  · isplitr; · iexact HR
    isplitl [Hc]; · iexact Hc
    isplitl [HO] <;> iassumption
  iexact Hk

theorem step_sent_x (j : Fin 12) {sp : Space} {sr : Memref sig .tc sp S256x4096 .bf16} {hsr : sr.view.WordExact} {hds : (xq (qOf j)).view.WordExact}
    {kk : PUnit → Prog (TpuEff nD τ sig (Elt F) Λ₀ .tc) α}
    (S : Finset (Fin 12)) :
    iprop(Rec m K ∗ Sent c j ∗ owesX c (Osum c S))
      ⊢ iprop(((owesX c (Osum c S) ∗ Zr c (sS j) ∗ sendPay m c j) -∗ WP c (kk ⟨⟩) Q)
          -∗ WP c (.op (.waitDma2 (sS j) sr (xq (qOf j)) hsr hds) kk) Q) := by
  unfold Sent Zr
  iintro ⟨#HR, ⟨Hc, Hat⟩, HO⟩ Hk
  iapply (wp_sent m K c j (xq_credit (qOf j)) S) $$ [Hc Hat HO]
  · isplitr; · iexact HR
    isplitl [Hc]; · iexact Hc
    isplitl [HO] <;> iassumption
  iexact Hk

theorem step_sent_f (j : Fin 12) {sp : Space} {sr : Memref sig .tc sp S256x4096 .bf16} {hsr : sr.view.WordExact} {hds : (cq (fwd j)).view.WordExact}
    {kk : PUnit → Prog (TpuEff nD τ sig (Elt F) Λ₀ .tc) α}
    (S : Finset (Fin 12)) :
    iprop(Rec m K ∗ Sent c j ∗ owesX c (Osum c S))
      ⊢ iprop(((owesX c (Osum c S) ∗ Zr c (sS j) ∗ sendPay m c j) -∗ WP c (kk ⟨⟩) Q)
          -∗ WP c (.op (.waitDma2 (sS j) sr (cq (fwd j)) hsr hds) kk) Q) := by
  unfold Sent Zr
  iintro ⟨#HR, ⟨Hc, Hat⟩, HO⟩ Hk
  iapply (wp_sent m K c j (cq_credit (fwd j)) S) $$ [Hc Hat HO]
  · isplitr; · iexact HR
    isplitl [Hc]; · iexact Hc
    isplitl [HO] <;> iassumption
  iexact Hk

/-- A copy into slot `s`, and the wait on it. -/
theorem step_slot (s : Fin 2) (r : ℕ) (hr : r < 2) (q : Fin 4) (hq : lq s r = q) {hsrc : (aq q).view.WordExact} {hdst : (sq s).view.WordExact}
    {hsem : DmaTarget.Typed (nD := nD) .hbm (.dma (slS s)) (DmaTarget.here (p := (Proc.tc : Proc τ)) (sq s))}
    {kk : PUnit → Prog (TpuEff nD τ sig (Elt F) Λ₀ .tc) α} :
    iprop(Rec m K ∗ aPts m c q ∗ sAny c s ∗ SlotTok c s r ∗ SlotAt c s r)
      ⊢ iprop(((cred (tallyAt (dCell c (slS s)) () NX) ∗ atPos ER (dCell c (slS s)) r ∅ 0) -∗ WP c (kk ⟨⟩) Q)
          -∗ WP c (.op (.enqueueDma (aq q) (.here (sq s)) (.dma (slS s)) hsrc hdst hsem) kk) Q) := by
  subst hq
  unfold sAny SlotTok SlotAt
  iintro ⟨#HR, Ha, ⟨%fd, Hs⟩, Ht, Hat, Hr⟩ Hk
  iapply (wp_slot m K c s r hr fd) $$ [Ha Hs Ht Hr]
  · isplitr; · iexact HR
    isplitl [Ha]; · iexact Ha
    isplitl [Hs]; · iexact Hs
    isplitl [Ht] <;> iassumption
  iintro Hc
  iapply Hk
  isplitl [Hc] <;> iassumption

theorem step_wait_slot (s : Fin 2) (r : ℕ) (hr : r < 2) (q : Fin 4) (hq : lq s r = q) {sp : Space} {sr : Memref sig .tc sp S256x4096 .f32} {hsr : sr.view.WordExact} {hds : (sq s).view.WordExact}
    {kk : PUnit → Prog (TpuEff nD τ sig (Elt F) Λ₀ .tc) α}
    (S : Finset (Fin 12)) :
    iprop(Rec m K ∗ (cred (tallyAt (dCell c (slS s)) () NX) ∗ atPos ER (dCell c (slS s)) r ∅ 0) ∗ owesX c (Osum c S))
      ⊢ iprop(((owesX c (Osum c S) ∗ SlotAt c s (r + 1) ∗ sPts m c s q ∗ aPts m c q) -∗ WP c (kk ⟨⟩) Q)
          -∗ WP c (.op (.waitDma2 (slS s) sr (sq s) hsr hds) kk) Q) := by
  subst hq
  unfold SlotAt
  iintro ⟨#HR, ⟨Hc, Hat⟩, HO⟩ Hk
  iapply (wp_wait_slot m K c s r hr (sq_credit s) S) $$ [Hc Hat HO]
  · isplitr; · iexact HR
    isplitl [Hc]; · iexact Hc
    isplitl [HO] <;> iassumption
  unfold slotPay
  iintro ⟨HO, Hat, Hr, Hs, Ha⟩
  iapply Hk
  isplitl [HO]; · iexact HO
  isplitl [Hat Hr]
  · isplitl [Hat] <;> iassumption
  isplitl [Hs] <;> iassumption

/-! ## Loads and stores -/

theorem sPts_any (s : Fin 2) (q : Fin 4) : sPts m c s q ⊢ (sAny c s : sProp 𝕄) := by
  unfold sPts sAny; iintro H; iexists _; iexact H

theorem step_load_s (s : Fin 2) (q : Fin 4) {hl : lM.view.LoadsAt (Rect.unit (s := S2x256x4096) ![s.val, 0, 0] S1x256x4096.size (sq_inb s)).toLoadRect}
    {kk : Vec F S1x256x4096 .f32 → Prog (TpuEff nD τ sig (Elt F) Λ₀ .tc) α} :
    sPts m c s q
      ⊢ iprop((sPts m c s q -∗ WP c (kk (lM.view.readAt (Elt F) (Rect.unit (s := S2x256x4096) ![s.val, 0, 0] S1x256x4096.size (sq_inb s)).toLoadRect (xsF m q c))) Q)
        -∗ WP c (.op (.load lM (Rect.unit (s := S2x256x4096) ![s.val, 0, 0] S1x256x4096.size (sq_inb s)).toLoadRect hl) kk) Q) := by
  unfold sPts
  exact wp_load_rect 𝒱₀ (c : Thread nD τ) none Set.univ (m := lM) (by rw [View.set_reshape])

theorem step_load_x (q : Fin 4) {hl : bM.view.LoadsAt (Rect.unit (s := S1024x4096) ![256 * q.val, 0] S256x4096.size (xq_inb q)).toLoadRect}
    {kk : Vec F S256x4096 .bf16 → Prog (TpuEff nD τ sig (Elt F) Λ₀ .tc) α} :
    xAny c q
      ⊢ iprop((∀ v, xAny c q -∗ WP c (kk v) Q)
        -∗ WP c (.op (.load bM (Rect.unit (s := S1024x4096) ![256 * q.val, 0] S256x4096.size (xq_inb q)).toLoadRect hl) kk) Q) := by
  unfold xAny
  iintro ⟨%f, H⟩ Hk
  iapply (wp_load_rect 𝒱₀ (c : Thread nD τ) none Set.univ (m := bM) (r := Rect.unit (s := S1024x4096) ![256 * q.val, 0] S256x4096.size (xq_inb q))
    (S := (xq q).view.set) (f := f) (Finset.Subset.refl _)) $$ H
  iintro H
  iapply Hk $$ %_ [H]
  iexists f; iexact H

theorem step_store_x (q : Fin 4) {w : Vec F S256x4096 .bf16} (hw : w = (xq q).view.read (Elt F) (xbF m c))
    {hx : (bM.access (Rect.unit (s := S1024x4096) ![256 * q.val, 0] S256x4096.size (xq_inb q))).Stores Finset.univ} {hm}
    {kk : PUnit → Prog (TpuEff nD τ sig (Elt F) Λ₀ .tc) α} :
    xAny c q
      ⊢ iprop((xPts m c fullShare q -∗ WP c (kk ⟨⟩) Q)
        -∗ WP c (.op (.store bM (Rect.unit (s := S1024x4096) ![256 * q.val, 0] S256x4096.size (xq_inb q)) w Finset.univ hx hm) kk) Q) := by
  unfold xAny xPts
  iintro ⟨%f, H⟩ Hk
  iapply (wp_store 𝒱₀ (c : Thread nD τ) none Set.univ (m := bM) (r := Rect.unit (s := S1024x4096) ![256 * q.val, 0] S256x4096.size (xq_inb q))
    (Mk := Finset.univ) (S := (xq q).view.set) (f := f) (Finset.Subset.refl _)) $$ H
  iintro H
  iapply Hk
  iapply (written_of_read c (xq q).view fullShare f (xbF m c) hw)
  iexact H

theorem step_load_c (j : Fin 12) (p : PosShare TreeShare) {hl : gM.view.LoadsAt (Rect.unit (s := S3x1024x4096) ![lay j, row j, 0] S1x256x4096.size (cq_inb j)).toLoadRect}
    {kk : Vec F S1x256x4096 .bf16 → Prog (TpuEff nD τ sig (Elt F) Λ₀ .tc) α} :
    cPts m c p j
      ⊢ iprop((cPts m c p j -∗ WP c (kk (gM.view.readAt (Elt F) (Rect.unit (s := S3x1024x4096) ![lay j, row j, 0] S1x256x4096.size (cq_inb j)).toLoadRect (commF m c))) Q)
        -∗ WP c (.op (.load gM (Rect.unit (s := S3x1024x4096) ![lay j, row j, 0] S1x256x4096.size (cq_inb j)).toLoadRect hl) kk) Q) := by
  unfold cPts
  exact wp_load_rect 𝒱₀ (c : Thread nD τ) none Set.univ (m := gM) (by rw [View.set_reshape])

theorem step_load_o (f : Vec F S4096x512 .bf16) {r : LoadRect S4096x512} {hl : oM.view.LoadsAt r}
    {kk : (r.shape.Idx → Elt F .bf16) → Prog (TpuEff nD τ sig (Elt F) Λ₀ .tc) α} :
    oPts c f ⊢ iprop((∀ v, oPts c f -∗ WP c (kk v) Q) -∗ WP c (.op (.load oM r hl) kk) Q) := by
  unfold oPts
  iintro H Hk
  iapply (wp_load 𝒱₀ (c : Thread nD τ) none Set.univ (m := oM) (View.setOn_subset_set _ _)) $$ H
  iintro H
  iapply Hk $$ %_ H

theorem step_store_o (f : Vec F S4096x512 .bf16) {r : Rect S4096x512} {w : r.shape.Idx → Elt F .bf16} {hx : (oM.access r).Stores Finset.univ} {hm}
    {kk : PUnit → Prog (TpuEff nD τ sig (Elt F) Λ₀ .tc) α} :
    oPts c f ⊢ iprop((oPts c ((oM.access r).write (Elt F) f w Finset.univ) -∗ WP c (kk ⟨⟩) Q) -∗ WP c (.op (.store oM r w Finset.univ hx hm) kk) Q) := by
  unfold oPts
  exact wp_store 𝒱₀ (c : Thread nD τ) none Set.univ (m := oM) (r := r) (Mk := Finset.univ) (S := oM.view.set) (f := f) (View.set_slice_subset oM.view r)

theorem step_load_wb {hl : wbM.view.LoadsAt (Rect.unit (s := S4096x512) ![0, 0] S4096x512.size inb_S4096x512_S4096x512_0_0).toLoadRect}
    {kk : Vec F S4096x512 .bf16 → Prog (TpuEff nD τ sig (Elt F) Λ₀ .tc) α} :
    wbPts m c ⊢ iprop((wbPts m c -∗ WP c (kk (wbF m c)) Q) -∗ WP c (.op (.load wbM (Rect.unit (s := S4096x512) ![0, 0] S4096x512.size inb_S4096x512_S4096x512_0_0).toLoadRect hl) kk) Q) := by
  unfold wbPts
  iintro H Hk
  iapply (wp_load 𝒱₀ (c : Thread nD τ) none Set.univ (m := wbM) (S := wbM.view.set) (f := wbF m c) (View.setOn_subset_set _ _)) $$ H
  iintro H
  rw [read_wb]
  iapply Hk; iexact H

theorem step_load_ws {hl : wsM.view.LoadsAt (Rect.unit (s := S4096x512) ![0, 0] S4096x512.size inb_S4096x512_S4096x512_0_0).toLoadRect}
    {kk : Vec F S4096x512 .f32 → Prog (TpuEff nD τ sig (Elt F) Λ₀ .tc) α} :
    wsPts m c ⊢ iprop((wsPts m c -∗ WP c (kk (Wc m c)) Q) -∗ WP c (.op (.load wsM (Rect.unit (s := S4096x512) ![0, 0] S4096x512.size inb_S4096x512_S4096x512_0_0).toLoadRect hl) kk) Q) := by
  unfold wsPts
  iintro H Hk
  iapply (wp_load 𝒱₀ (c : Thread nD τ) none Set.univ (m := wsM) (S := wsM.view.set) (f := Wc m c) (View.setOn_subset_set _ _)) $$ H
  iintro H
  rw [read_ws]
  iapply Hk; iexact H

theorem step_load_wbAny {r : LoadRect S4096x512} {hl : wbM.view.LoadsAt r}
    {kk : (r.shape.Idx → Elt F .bf16) → Prog (TpuEff nD τ sig (Elt F) Λ₀ .tc) α} :
    wbAny c ⊢ iprop((∀ v, wbAny c -∗ WP c (kk v) Q) -∗ WP c (.op (.load wbM r hl) kk) Q) := by
  unfold wbAny
  iintro ⟨%f, H⟩ Hk
  iapply (wp_load 𝒱₀ (c : Thread nD τ) none Set.univ (m := wbM) (View.setOn_subset_set _ _)) $$ H
  iintro H
  iapply Hk $$ %_ [H]
  iexists f; iexact H

theorem step_store_wb {hx : (wbM.access (Rect.unit (s := S4096x512) ![0, 0] S4096x512.size inb_S4096x512_S4096x512_0_0)).Stores Finset.univ} {hm}
    {kk : PUnit → Prog (TpuEff nD τ sig (Elt F) Λ₀ .tc) α} :
    wbAny c ⊢ iprop((wbPts m c -∗ WP c (kk ⟨⟩) Q)
      -∗ WP c (.op (.store wbM (Rect.unit (s := S4096x512) ![0, 0] S4096x512.size inb_S4096x512_S4096x512_0_0) (wbF m c) Finset.univ hx hm) kk) Q) := by
  unfold wbAny wbPts
  iintro ⟨%f, H⟩ Hk
  iapply (wp_store 𝒱₀ (c : Thread nD τ) none Set.univ (m := wbM) (r := Rect.unit (s := S4096x512) ![0, 0] S4096x512.size inb_S4096x512_S4096x512_0_0)
    (Mk := Finset.univ) (S := wbM.view.set) (f := f) (View.set_slice_subset wbM.view _)) $$ H
  iintro H
  rw [write_wb]
  iapply Hk; iexact H

theorem step_ret (x : α) : Q x ⊢ WP c (.ret x) Q := by
  iintro H
  unfold WP; rw [wp_ret]; imodintro; iexact H

end Steps

end Cert.RingProof
-- ==== Proof.PartsA.lean ====
/-
The body's first six parts: the barrier, the copies in, the casts, the sends of the device's own rows, and the first
product.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 28 → ℕ)

/-! ## The landings still owed, after each send -/

abbrev U0 : Finset (Fin 12) := Finset.univ
abbrev U1 : Finset (Fin 12) := {1, 2, 3, 4, 5, 6, 7, 8, 9, 10, 11}
abbrev U2 : Finset (Fin 12) := {1, 2, 3, 4, 5, 6, 8, 9, 10, 11}
abbrev U3 : Finset (Fin 12) := {2, 3, 4, 5, 6, 8, 9, 10, 11}
abbrev U4 : Finset (Fin 12) := {2, 3, 4, 5, 8, 9, 10, 11}
abbrev U5 : Finset (Fin 12) := {3, 4, 5, 8, 9, 10, 11}
abbrev U6 : Finset (Fin 12) := {3, 4, 8, 9, 10, 11}
abbrev U7 : Finset (Fin 12) := {3, 4, 9, 10, 11}
abbrev U8 : Finset (Fin 12) := {3, 4, 10, 11}
abbrev U9 : Finset (Fin 12) := {4, 10, 11}
abbrev U10 : Finset (Fin 12) := {4, 11}
abbrev U11 : Finset (Fin 12) := {4}

/-! ## The barrier -/

/-- What the barrier takes of a device besides its gather buffer. -/
def BarIn (c : Dev nD) : sProp 𝕄 :=
  iprop(cred (tallyAt (barCell c) () 2) ∗ atPos ER (barCell c) 0 ∅ 0 ∗ dutyTok ER (barCell (prv c)) 0 true ∗ dutyTok ER (barCell (nxt c)) 0 false)
/-- The quarters of `c`'s gather buffer that its left neighbour writes, and those its right neighbour writes; -/
def mineL (c : Dev nD) : sProp 𝕄 := iprop(cAny c 0 ∗ cAny c 1 ∗ cAny c 2 ∗ cAny c 3 ∗ cAny c 8 ∗ cAny c 9)
def mineR (c : Dev nD) : sProp 𝕄 := iprop(cAny c 4 ∗ cAny c 5 ∗ cAny c 6 ∗ cAny c 7 ∗ cAny c 10 ∗ cAny c 11)

omit [FloatOps F] in
theorem barPay_prv (c : Dev nD) : barPay (prv c) true = (mineL c : sProp 𝕄) := by
  unfold barPay mineL
  rw [if_pos rfl, show tgt (prv c) 0 = c by revert c; decide, show tgt (prv c) 1 = c by revert c; decide, show tgt (prv c) 2 = c by revert c; decide,
    show tgt (prv c) 3 = c by revert c; decide, show tgt (prv c) 8 = c by revert c; decide, show tgt (prv c) 9 = c by revert c; decide]
omit [FloatOps F] in
theorem barPay_nxt (c : Dev nD) : barPay (nxt c) false = (mineR c : sProp 𝕄) := by
  unfold barPay mineR
  rw [if_neg Bool.false_ne_true, show tgt (nxt c) 4 = c by revert c; decide, show tgt (nxt c) 5 = c by revert c; decide, show tgt (nxt c) 6 = c by revert c; decide,
    show tgt (nxt c) 7 = c by revert c; decide, show tgt (nxt c) 10 = c by revert c; decide, show tgt (nxt c) 11 = c by revert c; decide]

/-- The barrier: both neighbours are handed the quarters they write, and hand over the quarters this device writes. -/
theorem part1 (c : Dev nD) (Q : (Σ' (_ : Dev nD) (_ : BitVec 32) (_ : BitVec 32), BitVec 32) → sProp (MT nD τ sig Unit (Elt F) ℕ UU ℕ)) :
    iprop(Rec m K ∗ BarIn c ∗ mineL c ∗ mineR c ∗ owesX c (O₀ c)
        ∗ (∀ v2 v13 v24, (semVal (barCell c) 0 ∗ barPay c false ∗ barPay c true ∗ owesX c (Osum c U0)) -∗ Q ⟨c, v2, v13, v24⟩))
      ⊢ WP c (k0_part1 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7) Q := by
  simp only [k0_part1_eq_skeleton]; unfold k0_part1_skel
  simp only [semSignalWord, semWaitWord, Prog.lift, Prog.bind_op, Prog.bind_ret, Prog.pure_eq_ret, wp_deviceId]
  unfold BarIn owesX
  iintro ⟨#HR, ⟨Hc, Hat, Ht1, Ht2⟩, HL, HRt, ⟨%W, HO⟩, Hk⟩
  simp only [dev1_eq c, dev2_eq c]
  ihave Hi := (Rec_bar m K (prv c)) $$ HR
  icases Hi with ⟨#Hi1, #Hr1⟩
  ihave Hi := (Rec_bar m K (nxt c)) $$ HR
  icases Hi with ⟨#Hi2, #Hr2⟩
  ihave Hi := (Rec_bar m K c) $$ HR
  icases Hi with ⟨#Hi, -⟩
  unfold O₀
  iapply (Rounds.wp_signal 𝒱₀ ER (Rd m) (c : Thread nD τ) none (dst := (prv c : Thread nD τ)) (κ := K (prv c, 0))
      (d := true) (by rw [duties_bar]; exact Finset.mem_univ _) ((amount_bar m (prv c) 0 true).trans (by decide)) () (O₁ c) rfl) $$ [HO Ht1 HL]
  · isplitr; · iexact Hi1
    isplitl [HO]; · iexact HO
    isplitl [Ht1]; · iexact Ht1
    isplitl [HL]; · rw [payload_bar, barPay_prv]; iexact HL
    iexact Hr1
  iintro HO
  unfold O₁
  iapply (Rounds.wp_signal 𝒱₀ ER (Rd m) (c : Thread nD τ) none (dst := (nxt c : Thread nD τ)) (κ := K (nxt c, 0))
      (d := false) (by rw [duties_bar]; exact Finset.mem_univ _) ((amount_bar m (nxt c) 0 false).trans (by decide)) () (Osum c U0) rfl) $$ [HO Ht2 HRt]
  · isplitr; · iexact Hi2
    isplitl [HO]; · iexact HO
    isplitl [Ht2]; · iexact Ht2
    isplitl [HRt]; · rw [payload_bar, barPay_nxt]; iexact HRt
    iexact Hr2
  iintro HO
  iapply (Rounds.wp_wait_rest_token 𝒱₀ ER (Rd m) (c : Thread nD τ) none (κ := K (c, 0))
      (wpE_semWait_eq 𝒱₀ (c : Thread nD τ) none Set.univ) (Set.mem_univ _) () (O := Osum c U0) (W := W) (R := 0) (m := 0) (T := ∅)
      (by rw [expect_bar]; decide)) $$ [Hc HO Hat]
  · isplitr; · iexact Hi
    isplitl [Hc]; · iexact Hc
    isplitl [HO]; · iexact HO
    isplitr; · iapply (mayWait c (.reg barS) U0 (by decide)); iapply (Rec_lev m K); iexact HR
    iexact Hat
  iintro ⟨HO, Hat, -, Hpay⟩
  ihave Hp := (Entails.of_eq (rest_bar m c)) $$ Hpay
  icases Hp with ⟨Hf, Ht⟩
  imod (Rounds.cell_close ER (Rd m) (Set.mem_univ (K (c, 0))) (fun h => h) (R := 0 + 1) (duties_later_bar m c)) $$ [Hat] with Hz
  · isplitr; · iexact Hi
    iexact Hat
  rw [wp_ret]; imodintro
  iapply Hk $$ %_ %_ %_ [Hz Hf Ht HO]
  isplitl [Hz]; · iexact Hz
  isplitl [Hf]; · iexact Hf
  isplitl [Ht]; · iexact Ht
  iexists _; iexact HO

/-! ## The copies in, the casts and the first sends -/

/-- What the copy of the weight block takes, and what the wait on it takes. -/
def WTok (c : Dev nD) : sProp 𝕄 := iprop(dutyTok ER (dCell c wlS) 0 false ∗ atPos ER (dCell c wlS) 0 ∅ 0)
def WGo (c : Dev nD) : sProp 𝕄 := iprop(cred (tallyAt (dCell c wlS) () NW) ∗ atPos ER (dCell c wlS) 0 ∅ 0)
/-- What the wait on slot `s`'s copy of round `r` takes. -/
def SGo (c : Dev nD) (s : Fin 2) (r : ℕ) : sProp 𝕄 := iprop(cred (tallyAt (dCell c (slS s)) () NX) ∗ atPos ER (dCell c (slS s)) r ∅ 0)

/-- A quarter of the cast rows at the shares its two sends borrow and the product keeps. -/
theorem x_split (c : Dev nD) (q : Fin 4) :
    xPts m c fullShare q ⊣⊢ iprop(xPts m c fullShare.left q ∗ xPts m c fullShare.right.left q ∗ xPts m c fullShare.right.right q) := by
  unfold xPts
  exact ((pointsTo_share (PosShare.mem_left_op_right fullShare)).trans
    (sep_congr BiEntails.rfl (pointsTo_share (PosShare.mem_left_op_right fullShare.right))))
/-- A received quarter at the share its forwarding borrows and the share the product keeps. -/
theorem c_split (c : Dev nD) (j : Fin 12) :
    cPts m c fullShare j ⊣⊢ iprop(cPts m c fullShare.left j ∗ cPts m c fullShare.right j) := by
  unfold cPts; exact pointsTo_share (PosShare.mem_left_op_right fullShare)

/-- The copies of the weight block and of the first two quarters start; the first quarter is cast. -/
theorem part2 (c : Dev nD) (Q : PUnit → sProp (MT nD τ sig Unit (Elt F) ℕ UU ℕ)) :
    iprop(Rec m K ∗ wPts m c ∗ wsAny c ∗ WTok c ∗ aPts m c 0 ∗ aPts m c 3 ∗ sAny c 0 ∗ sAny c 1 ∗ SlotTok c 0 0 ∗ SlotTok c 1 0 ∗ SlotAt c 0 0 ∗ SlotAt c 1 0 ∗ xAny c 0 ∗ owesX c (Osum c U0)
        ∗ ((WGo c ∗ SGo c 1 0 ∗ SlotAt c 0 1 ∗ sAny c 0 ∗ aPts m c 0 ∗ xPts m c fullShare 0 ∗ owesX c (Osum c U0)) -∗ Q ⟨⟩))
      ⊢ WP c (k0_part2 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7) Q := by
  simp only [k0_part2_eq_skeleton]; unfold k0_part2_skel
  simp only [Prog.lift, Prog.bind_op, Prog.bind_ret, Prog.pure_eq_ret]
  iintro ⟨#HR, Hw, Hws, Hwt, Ha0, Ha3, Hs0, Hs1, Hst00, Hst10, Hsa0, Hsa1, Hx0, HO, Hk⟩
  unfold WTok wsAny WGo SGo
  icases Hwt with ⟨Hwt, Hwa⟩
  icases Hws with ⟨%fw, Hws⟩
  iapply (wp_weight m K c fw) $$ [Hw Hws Hwt]
  · isplitr; · iexact HR
    isplitl [Hw]; · iexact Hw
    isplitl [Hws]; · iexact Hws
    iexact Hwt
  iintro Hwc
  iapply (step_slot m K c 0 0 (by decide) 0 (by decide)) $$ [Ha0 Hs0 Hst00 Hsa0]
  · isplitr; · iexact HR
    isplitl [Ha0]; · iexact Ha0
    isplitl [Hs0]; · iexact Hs0
    isplitl [Hst00]; · iexact Hst00
    iexact Hsa0
  iintro Hsg0
  iapply (step_slot m K c 1 0 (by decide) 3 (by decide)) $$ [Ha3 Hs1 Hst10 Hsa1]
  · isplitr; · iexact HR
    isplitl [Ha3]; · iexact Ha3
    isplitl [Hs1]; · iexact Hs1
    isplitl [Hst10]; · iexact Hst10
    iexact Hsa1
  iintro Hsg1
  iapply (step_wait_slot m K c 0 0 (by decide) 0 (by decide) U0) $$ [Hsg0 HO]
  · isplitr; · iexact HR
    isplitl [Hsg0]; · iexact Hsg0
    iexact HO
  iintro ⟨HO, Hsa0, Hs0, Ha0⟩
  iapply (step_load_s m c 0 0) $$ Hs0; iintro Hs0
  iapply (step_load_x c 0) $$ Hx0; iintro %_ Hx0
  iapply (step_store_x m c 0 (cast_s m c 0 0)) $$ Hx0; iintro Hx0
  ihave Hs0 := (sPts_any m c 0 0) $$ Hs0
  iapply (step_ret c); iapply Hk
  isplitl [Hwc Hwa]
  · isplitl [Hwc] <;> iassumption
  isplitl [Hsg1]; · iexact Hsg1
  isplitl [Hsa0]; · iexact Hsa0
  isplitl [Hs0]; · iexact Hs0
  isplitl [Ha0]; · iexact Ha0
  isplitl [Hx0]; · iexact Hx0
  iexact HO

/-- The first quarter to the right; the fourth cast. -/
theorem part3 (c : Dev nD) (v24 : BitVec 32) (Q : PUnit → sProp (MT nD τ sig Unit (Elt F) ℕ UU ℕ)) :
    iprop(Rec m K ∗ aPts m c 1 ∗ aPts m c 2 ∗ sAny c 0 ∗ SlotTok c 0 1 ∗ SlotTok c 1 1 ∗ SlotAt c 0 1 ∗ SGo c 1 0 ∗ xPts m c fullShare.left 0 ∗ SendRes c 0 ∗ xAny c 3 ∗ owesX c (Osum c U0)
        ∗ ((SGo c 0 1 ∗ Sent c 0 ∗ aPts m c 3 ∗ xPts m c fullShare 3 ∗ SGo c 1 1 ∗ owesX c (Osum c U1)) -∗ Q ⟨⟩))
      ⊢ WP c (k0_part3 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v24) Q := by
  simp only [k0_part3_eq_skeleton]; unfold k0_part3_skel
  simp only [Prog.lift, Prog.bind_op, Prog.bind_ret, Prog.pure_eq_ret]
  iintro ⟨#HR, Ha1, Ha2, Hs0, Hst01, Hst11, Hsa0, Hsg1, Hxl0, HS0, Hx3, HO, Hk⟩
  unfold SGo
  iapply (step_slot m K c 0 1 (by decide) 1 (by decide)) $$ [Ha1 Hs0 Hst01 Hsa0]
  · isplitr; · iexact HR
    isplitl [Ha1]; · iexact Ha1
    isplitl [Hs0]; · iexact Hs0
    isplitl [Hst01]; · iexact Hst01
    iexact Hsa0
  iintro Hsg0
  iapply (step_send_x m K c 0 (by decide) U0 U1 (by decide) (by decide) (dev3_eq c)) $$ [Hxl0 HS0 HO]
  · isplitr; · iexact HR
    isplitl [Hxl0]; · iexact Hxl0
    isplitl [HS0]; · iexact HS0
    iexact HO
  iintro ⟨HS0, HO⟩
  iapply (step_wait_slot m K c 1 0 (by decide) 3 (by decide) U1) $$ [Hsg1 HO]
  · isplitr; · iexact HR
    isplitl [Hsg1]; · iexact Hsg1
    iexact HO
  iintro ⟨HO, Hsa1, Hs1, Ha3⟩
  iapply (step_load_s m c 1 3) $$ Hs1; iintro Hs1
  iapply (step_load_x c 3) $$ Hx3; iintro %_ Hx3
  iapply (step_store_x m c 3 (cast_s m c 1 3)) $$ Hx3; iintro Hx3
  ihave Hs1 := (sPts_any m c 1 3) $$ Hs1
  iapply (step_slot m K c 1 1 (by decide) 2 (by decide)) $$ [Ha2 Hs1 Hst11 Hsa1]
  · isplitr; · iexact HR
    isplitl [Ha2]; · iexact Ha2
    isplitl [Hs1]; · iexact Hs1
    isplitl [Hst11]; · iexact Hst11
    iexact Hsa1
  iintro Hsg1
  iapply (step_ret c); iapply Hk
  isplitl [Hsg0]; · iexact Hsg0
  isplitl [HS0]; · iexact HS0
  isplitl [Ha3]; · iexact Ha3
  isplitl [Hx3]; · iexact Hx3
  isplitl [Hsg1]; · iexact Hsg1
  iexact HO

/-- The fourth quarter to the left; the second cast. -/
theorem part4 (c : Dev nD) (v13 v24 : BitVec 32) (Q : PUnit → sProp (MT nD τ sig Unit (Elt F) ℕ UU ℕ)) :
    iprop(Rec m K ∗ xPts m c fullShare.right.left 3 ∗ SendRes c 7 ∗ SGo c 0 1 ∗ xAny c 1 ∗ owesX c (Osum c U1)
        ∗ ((Sent c 7 ∗ SlotAt c 0 2 ∗ sAny c 0 ∗ aPts m c 1 ∗ xPts m c fullShare 1 ∗ owesX c (Osum c U2)) -∗ Q ⟨⟩))
      ⊢ WP c (k0_part4 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v24) Q := by
  simp only [k0_part4_eq_skeleton]; unfold k0_part4_skel
  simp only [Prog.lift, Prog.bind_op, Prog.bind_ret, Prog.pure_eq_ret]
  iintro ⟨#HR, Hxm3, HS7, Hsg0, Hx1, HO, Hk⟩
  unfold SGo
  iapply (step_send_x m K c 7 (by decide) U1 U2 (by decide) (by decide) (dev4_eq c)) $$ [Hxm3 HS7 HO]
  · isplitr; · iexact HR
    isplitl [Hxm3]; · iexact Hxm3
    isplitl [HS7]; · iexact HS7
    iexact HO
  iintro ⟨HS7, HO⟩
  iapply (step_wait_slot m K c 0 1 (by decide) 1 (by decide) U2) $$ [Hsg0 HO]
  · isplitr; · iexact HR
    isplitl [Hsg0]; · iexact Hsg0
    iexact HO
  iintro ⟨HO, Hsa0, Hs0, Ha1⟩
  iapply (step_load_s m c 0 1) $$ Hs0; iintro Hs0
  iapply (step_load_x c 1) $$ Hx1; iintro %_ Hx1
  iapply (step_store_x m c 1 (cast_s m c 0 1)) $$ Hx1; iintro Hx1
  ihave Hs0 := (sPts_any m c 0 1) $$ Hs0
  iapply (step_ret c); iapply Hk
  isplitl [HS7]; · iexact HS7
  isplitl [Hsa0]; · iexact Hsa0
  isplitl [Hs0]; · iexact Hs0
  isplitl [Ha1]; · iexact Ha1
  isplitl [Hx1]; · iexact Hx1
  iexact HO

/-- The second quarter to the right, the third cast and sent to the left. -/
theorem part5 (c : Dev nD) (v13 v24 : BitVec 32) (Q : (Σ' (_ : BitVec 32), BitVec 32) → sProp (MT nD τ sig Unit (Elt F) ℕ UU ℕ)) :
    iprop(Rec m K ∗ xPts m c fullShare.left 1 ∗ SendRes c 1 ∗ SendRes c 6 ∗ SGo c 1 1 ∗ xAny c 2 ∗ owesX c (Osum c U2)
        ∗ (∀ v, (Sent c 1 ∗ Sent c 6 ∗ SlotAt c 1 2 ∗ sAny c 1 ∗ aPts m c 2 ∗ xPts m c fullShare.left 2 ∗ xPts m c fullShare.right.right 2 ∗ owesX c (Osum c U4)) -∗ Q v))
      ⊢ WP c (k0_part5 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v24) Q := by
  simp only [k0_part5_eq_skeleton]; unfold k0_part5_skel
  simp only [Prog.lift, Prog.bind_op, Prog.bind_ret, Prog.pure_eq_ret]
  iintro ⟨#HR, Hxl1, HS1, HS6, Hsg1, Hx2, HO, Hk⟩
  unfold SGo
  iapply (step_send_x m K c 1 (by decide) U2 U3 (by decide) (by decide) (dev5_eq c)) $$ [Hxl1 HS1 HO]
  · isplitr; · iexact HR
    isplitl [Hxl1]; · iexact Hxl1
    isplitl [HS1]; · iexact HS1
    iexact HO
  iintro ⟨HS1, HO⟩
  iapply (step_wait_slot m K c 1 1 (by decide) 2 (by decide) U3) $$ [Hsg1 HO]
  · isplitr; · iexact HR
    isplitl [Hsg1]; · iexact Hsg1
    iexact HO
  iintro ⟨HO, Hsa1, Hs1, Ha2⟩
  iapply (step_load_s m c 1 2) $$ Hs1; iintro Hs1
  iapply (step_load_x c 2) $$ Hx2; iintro %_ Hx2
  iapply (step_store_x m c 2 (cast_s m c 1 2)) $$ Hx2; iintro Hx2
  ihave Hs1 := (sPts_any m c 1 2) $$ Hs1
  ihave Hx2 := (x_split m c 2).1 $$ Hx2
  icases Hx2 with ⟨Hxl2, Hxm2, Hxr2⟩
  iapply (step_send_x m K c 6 (by decide) U3 U4 (by decide) (by decide) (dev6_eq c)) $$ [Hxm2 HS6 HO]
  · isplitr; · iexact HR
    isplitl [Hxm2]; · iexact Hxm2
    isplitl [HS6]; · iexact HS6
    iexact HO
  iintro ⟨HS6, HO⟩
  iapply (step_ret c); iapply Hk $$ %_ [HS1 HS6 Hsa1 Hs1 Ha2 Hxl2 Hxr2 HO]
  isplitl [HS1]; · iexact HS1
  isplitl [HS6]; · iexact HS6
  isplitl [Hsa1]; · iexact Hsa1
  isplitl [Hs1]; · iexact Hs1
  isplitl [Ha2]; · iexact Ha2
  isplitl [Hxl2]; · iexact Hxl2
  isplitl [Hxr2]; · iexact Hxr2
  iexact HO

/-- The four quarters at the share the product keeps are the whole of the cast rows at that share, and back. -/
def xWhole (c : Dev nD) : sProp 𝕄 := bM.view.loc (c : Thread nD τ) ↦[Finset.univ]{fullShare.right.right} xbF m c

theorem x_cover : (Finset.univ : Finset (Fin 4)).biUnion (fun q => (xq q).view.set) = (Finset.univ : Finset S1024x4096.Idx) := by
  ext i
  simp only [Finset.mem_biUnion, Finset.mem_univ, true_and, iff_true]
  have h : (i 0).val < 1024 := (i 0).isLt
  refine ⟨(⟨(i 0).val / 256, by omega⟩ : Fin 4), ?_⟩
  rw [mem_xq]
  show 256 * ((i 0).val / 256) ≤ (i 0).val ∧ (i 0).val < 256 * ((i 0).val / 256) + 256
  omega
theorem x_disj (q q' : Fin 4) (h : q ≠ q') : Disjoint (xq q).view.set (xq q').view.set := by
  rw [Finset.disjoint_left]
  intro i hi hi'
  rw [mem_xq] at hi hi'
  exact h (Fin.ext (by omega))

/-- Four of anything over the quarters. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

theorem xWhole_eq (c : Dev nD) :
    xWhole m c = iprop(xPts m c fullShare.right.right 0 ∗ xPts m c fullShare.right.right 1 ∗ xPts m c fullShare.right.right 2 ∗ xPts m c fullShare.right.right 3) := by
  rw [← four fun q => xPts m c fullShare.right.right q]
  have h := pointsTo_biUnion (Ix := Unit) (Name := ℕ) (U := UU) (Lvl := ℕ) (ℓ := bM.view.loc (c : Thread nD τ)) (q := fullShare.right.right) (f := xbF m c) Finset.univ (fun q : Fin 4 => (xq q).view.set)
    (fun q _ q' _ h => x_disj q q' h)
  rw [x_cover] at h
  exact h

theorem step_load_b (c : Dev nD) {α : Type} {Q : α → sProp (MT nD τ sig Unit (Elt F) ℕ UU ℕ)}
    {hl : bM.view.LoadsAt (Rect.unit (s := S1024x4096) ![0, 0] S1024x4096.size inb_S1024x4096_S1024x4096_0_0).toLoadRect}
    {kk : Vec F S1024x4096 .bf16 → Prog (TpuEff nD τ sig (Elt F) Λ₀ .tc) α} :
    xWhole m c ⊢ iprop((xWhole m c -∗ WP c (kk (xbF m c)) Q) -∗ WP c (.op (.load bM (Rect.unit (s := S1024x4096) ![0, 0] S1024x4096.size inb_S1024x4096_S1024x4096_0_0).toLoadRect hl) kk) Q) := by
  unfold xWhole
  iintro H Hk
  iapply (wp_load 𝒱₀ (c : Thread nD τ) none Set.univ (m := bM) (S := Finset.univ) (q := fullShare.right.right) (f := xbF m c) (Finset.subset_univ _)) $$ H
  iintro H
  rw [read_b]
  iapply Hk; iexact H

/-- The third quarter to the right, the second to the left, the weight block cast, and the first product. -/
theorem part6 (c : Dev nD) (v13 v136 c0 : BitVec 32) (Q : FVec F S1024x512 .f32 → sProp (MT nD τ sig Unit (Elt F) ℕ UU ℕ)) :
    iprop(Rec m K ∗ xPts m c fullShare.left 2 ∗ SendRes c 2 ∗ xPts m c fullShare.right.left 1 ∗ SendRes c 5 ∗ WGo c ∗ wbAny c ∗ xWhole m c ∗ owesX c (Osum c U4)
        ∗ ((Sent c 2 ∗ Sent c 5 ∗ Zr c wlS ∗ wsPts m c ∗ wPts m c ∗ wbPts m c ∗ xWhole m c ∗ owesX c (Osum c U6)) -∗ Q (k0_pay6 (xbF m c) (wbF m c))))
      ⊢ WP c (k0_part6 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v136 c0) Q := by
  simp only [k0_part6_eq_skeleton]; unfold k0_part6_skel
  simp only [Prog.lift, Prog.bind_op, Prog.bind_ret, Prog.pure_eq_ret]
  iintro ⟨#HR, Hxl2, HS2, Hxm1, HS5, Hwg, Hwb, Hx, HO, Hk⟩
  iapply (step_send_x m K c 2 (by decide) U4 U5 (by decide) (by decide) (dev7_eq c)) $$ [Hxl2 HS2 HO]
  · isplitr; · iexact HR
    isplitl [Hxl2]; · iexact Hxl2
    isplitl [HS2]; · iexact HS2
    iexact HO
  iintro ⟨HS2, HO⟩
  iapply (step_send_x m K c 5 (by decide) U5 U6 (by decide) (by decide) (dev8_eq c)) $$ [Hxm1 HS5 HO]
  · isplitr; · iexact HR
    isplitl [Hxm1]; · iexact Hxm1
    isplitl [HS5]; · iexact HS5
    iexact HO
  iintro ⟨HS5, HO⟩
  unfold WGo
  icases Hwg with ⟨Hwc, Hwa⟩
  iapply (wp_wait_w m K c rfl U6) $$ [Hwc HO Hwa]
  · isplitr; · iexact HR
    isplitl [Hwc]; · iexact Hwc
    isplitl [HO]; · iexact HO
    iexact Hwa
  iintro ⟨HO, Hzw, Hwp⟩
  unfold wPay Zr
  icases Hwp with ⟨Hws, Hw⟩
  iapply (step_load_ws m c) $$ Hws; iintro Hws
  iapply (step_load_wbAny c) $$ Hwb; iintro %_ Hwb
  iapply (step_store_wb m c) $$ Hwb; iintro Hwb
  iapply (step_load_b m c) $$ Hx; iintro Hx
  iapply (step_load_wb m c) $$ Hwb; iintro Hwb
  iapply (step_ret c); iapply Hk
  isplitl [HS2]; · iexact HS2
  isplitl [HS5]; · iexact HS5
  isplitl [Hzw]; · iexact Hzw
  isplitl [Hws]; · iexact Hws
  isplitl [Hw]; · iexact Hw
  isplitl [Hwb]; · iexact Hwb
  isplitl [Hx]; · iexact Hx
  iexact HO

end Cert.RingProof
-- ==== Proof.PartsB.lean ====
/-
The body's other parts: the received quarters forwarded, multiplied and written, and the last waits.
-/
module

public import proofs.«01_k».proof.Proof.PartsA

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 28 → ℕ)

/-! ## What the products read and write -/

/-- Quarter `j` of the gather buffer, as the products read it; -/
def rowsOf (c : Dev nD) (j : Fin 12) : Vec F S1x256x4096 .bf16 :=
  gM.view.readAt (Elt F) (Rect.unit (s := S3x1024x4096) ![lay j, row j, 0] S1x256x4096.size (cq_inb j)).toLoadRect (commF m c)
/-- the first two quarters of the first layer, and the last two of the second. -/
def rowsL (c : Dev nD) : Vec F S1x512x4096 .bf16 :=
  gM.view.readAt (Elt F) (Rect.unit (s := S3x1024x4096) ![0, 0, 0] S1x512x4096.size inb_S3x1024x4096_S1x512x4096_0_0_0).toLoadRect (commF m c)
def rowsR (c : Dev nD) : Vec F S1x512x4096 .bf16 :=
  gM.view.readAt (Elt F) (Rect.unit (s := S3x1024x4096) ![1, 512, 0] S1x512x4096.size inb_S3x1024x4096_S1x512x4096_1_512_0).toLoadRect (commF m c)

/-- A block of the output written. -/
def put (r : Rect S4096x512) (w : r.shape.Idx → Elt F .bf16) (f : Vec F S4096x512 .bf16) : Vec F S4096x512 .bf16 := (oM.access r).write (Elt F) f w Finset.univ
/-- The blocks: the device's own rows, its neighbours' halves, and the quarters. -/
abbrev r1 (c : Dev nD) : Rect S4096x512 := Rect.unit (s := S4096x512) (k0_off1 c) S1024x512.size (k0_off1_inb c)
abbrev r2 (c : Dev nD) : Rect S4096x512 := Rect.unit (s := S4096x512) (k0_off2 c) S512x512.size (k0_off2_inb c)
abbrev r3 (c : Dev nD) : Rect S4096x512 := Rect.unit (s := S4096x512) (k0_off3 c) S512x512.size (k0_off3_inb c)
abbrev r4 (c : Dev nD) : Rect S4096x512 := Rect.unit (s := S4096x512) (k0_off4 c 512#32) S256x512.size (k0_off4_inb c 0)
abbrev r5 (c : Dev nD) : Rect S4096x512 := Rect.unit (s := S4096x512) (k0_off5 c 1#32 256#32) S256x512.size (k0_off5_inb c 0)
abbrev r6 (c : Dev nD) : Rect S4096x512 := Rect.unit (s := S4096x512) (k0_off5 c 2#32 0#32) S256x512.size (k0_off5_inb c 1)
abbrev r7 (c : Dev nD) : Rect S4096x512 := Rect.unit (s := S4096x512) (k0_off5 c 2#32 768#32) S256x512.size (k0_off5_inb c 2)
abbrev r8 (c : Dev nD) : Rect S4096x512 := Rect.unit (s := S4096x512) (k0_off5 c 2#32 256#32) S256x512.size (k0_off5_inb c 3)
abbrev r9 (c : Dev nD) : Rect S4096x512 := Rect.unit (s := S4096x512) (k0_off5 c 2#32 512#32) S256x512.size (k0_off5_inb c 4)
abbrev r10 (c : Dev nD) : Rect S4096x512 := Rect.unit (s := S4096x512) (k0_off4 c 768#32) S256x512.size (k0_off4_inb c 1)
abbrev r11 (c : Dev nD) : Rect S4096x512 := Rect.unit (s := S4096x512) (k0_off5 c 1#32 0#32) S256x512.size (k0_off5_inb c 5)

theorem step_load_q (c : Dev nD) (j : Fin 12) (p : PosShare TreeShare) {α : Type} {Q : α → sProp (MT nD τ sig Unit (Elt F) ℕ UU ℕ)}
    {hl : gM.view.LoadsAt (Rect.unit (s := S3x1024x4096) ![lay j, row j, 0] S1x256x4096.size (cq_inb j)).toLoadRect}
    {kk : Vec F S1x256x4096 .bf16 → Prog (TpuEff nD τ sig (Elt F) Λ₀ .tc) α} :
    cPts m c p j
      ⊢ iprop((cPts m c p j -∗ WP c (kk (rowsOf m c j)) Q)
        -∗ WP c (.op (.load gM (Rect.unit (s := S3x1024x4096) ![lay j, row j, 0] S1x256x4096.size (cq_inb j)).toLoadRect hl) kk) Q) := step_load_c m c j p

/-- Two adjoining quarters of a layer loaded as one block. -/
theorem step_load_two (c : Dev nD) (j j' : Fin 12) (p : PosShare TreeShare) (hl : lay j' = lay j) (hr : row j' = row j + 256)
    {inb : ∀ a, ![lay j, row j, 0] a + S1x512x4096.size a ≤ S3x1024x4096.size a} {α : Type} {Q : α → sProp (MT nD τ sig Unit (Elt F) ℕ UU ℕ)}
    {hL : gM.view.LoadsAt (Rect.unit (s := S3x1024x4096) ![lay j, row j, 0] S1x512x4096.size inb).toLoadRect}
    {kk : Vec F S1x512x4096 .bf16 → Prog (TpuEff nD τ sig (Elt F) Λ₀ .tc) α} :
    iprop(cPts m c p j ∗ cPts m c p j')
      ⊢ iprop(((cPts m c p j ∗ cPts m c p j') -∗ WP c (kk (gM.view.readAt (Elt F) (Rect.unit (s := S3x1024x4096) ![lay j, row j, 0] S1x512x4096.size inb).toLoadRect (commF m c))) Q)
        -∗ WP c (.op (.load gM (Rect.unit (s := S3x1024x4096) ![lay j, row j, 0] S1x512x4096.size inb).toLoadRect hL) kk) Q) := by
  have hd : Disjoint (cq j).view.set (cq j').view.set := by
    rw [Finset.disjoint_left]
    intro i hi hi'
    rw [mem_cq] at hi hi'
    omega
  have hs : (gM.access (Rect.unit (s := S3x1024x4096) ![lay j, row j, 0] S1x512x4096.size inb)).set ⊆ (cq j).view.set ∪ (cq j').view.set := by
    intro i hi
    rw [show (gM.access (Rect.unit (s := S3x1024x4096) ![lay j, row j, 0] S1x512x4096.size inb)).set
      = (Rect.unit (s := S3x1024x4096) ![lay j, row j, 0] S1x512x4096.size inb).set from View.set_slice_whole _ _, Rect.mem_set_unit] at hi
    have h0 : lay j ≤ (i 0).val ∧ (i 0).val < lay j + 1 := hi 0
    have h1 : row j ≤ (i 1).val ∧ (i 1).val < row j + 512 := hi 1
    rw [Finset.mem_union, mem_cq, mem_cq]
    omega
  unfold cPts
  have hu := pointsTo_union (Ix := Unit) (Name := ℕ) (U := UU) (Lvl := ℕ) (ℓ := (cq j).view.loc (c : Thread nD τ)) (q := p) (f := commF m c) hd
  iintro H Hk
  ihave H := hu.2 $$ H
  iapply (wp_load_rect 𝒱₀ (c : Thread nD τ) none Set.univ (m := gM) (r := Rect.unit (s := S3x1024x4096) ![lay j, row j, 0] S1x512x4096.size inb)
    (S := (cq j).view.set ∪ (cq j').view.set) (q := p) (f := commF m c) hs) $$ H
  iintro H
  ihave H := hu.1 $$ H
  iapply Hk; iexact H

/-! ## The parts -/

/-- The first block written; the left neighbour’s first quarter received and forwarded. -/
theorem part7 (c : Dev nD) (f : Vec F S4096x512 .bf16) (v2 v24 : BitVec 32) (v : FVec F S1024x512 .f32) (Q : PUnit → sProp (MT nD τ sig Unit (Elt F) ℕ UU ℕ)) :
    iprop(Rec m K ∗ oPts c f ∗ RecvRes c 0 ∗ SendRes c 8 ∗ owesX c (Osum c U6)
        ∗ ((oPts c (put (r1 c) (k0_pay7 v) f) ∗ Zr c (rS 0) ∗ cPts m c fullShare.right 0 ∗ Sent c 8 ∗ owesX c (Osum c U7)) -∗ Q ⟨⟩))
      ⊢ WP c (k0_part7 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v2 v24 v) Q := by
  simp only [k0_part7_eq_skeleton]; unfold k0_part7_skel
  simp only [Prog.lift, Prog.bind_op, Prog.bind_ret, Prog.pure_eq_ret]
  iintro ⟨#HR, Ho, HV0, HS8, HO, Hk⟩
  iapply (step_load_o c _) $$ Ho; iintro %_ Ho
  iapply (step_store_o c _) $$ Ho; iintro Ho
  iapply (step_recv m K c 0 U6 (by decide)) $$ [HV0 HO]
  · isplitr; · iexact HR
    isplitl [HV0]; · iexact HV0
    iexact HO
  iintro ⟨HO, HV0, HC0⟩
  ihave HC0 := (c_split m c 0).1 $$ HC0
  icases HC0 with ⟨Hcl0, Hcr0⟩
  iapply (step_send_f m K c 8 (by decide) U6 U7 (by decide) (by decide) (dev9_eq c)) $$ [Hcl0 HS8 HO]
  · isplitr; · iexact HR
    isplitl [Hcl0]; · iexact Hcl0
    isplitl [HS8]; · iexact HS8
    iexact HO
  iintro ⟨HS8, HO⟩
  iapply (step_ret c); iapply Hk
  isplitl [Ho]; · iexact Ho
  isplitl [HV0]; · iexact HV0
  isplitl [Hcr0]; · iexact Hcr0
  isplitl [HS8]; · iexact HS8
  iexact HO

/-- The left neighbour’s second quarter received and forwarded; the fourth quarter to the right. -/
theorem part8 (c : Dev nD) (v13 v24 : BitVec 32) (Q : BitVec 32 → sProp (MT nD τ sig Unit (Elt F) ℕ UU ℕ)) :
    iprop(Rec m K ∗ RecvRes c 1 ∗ SendRes c 9 ∗ xPts m c fullShare.left 3 ∗ SendRes c 3 ∗ owesX c (Osum c U7)
        ∗ (∀ v, (Zr c (rS 1) ∗ cPts m c fullShare.right 1 ∗ Sent c 9 ∗ Sent c 3 ∗ owesX c (Osum c U9)) -∗ Q v))
      ⊢ WP c (k0_part8 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v24) Q := by
  simp only [k0_part8_eq_skeleton]; unfold k0_part8_skel
  simp only [Prog.lift, Prog.bind_op, Prog.bind_ret, Prog.pure_eq_ret]
  iintro ⟨#HR, HV1, HS9, Hxl3, HS3, HO, Hk⟩
  iapply (step_recv m K c 1 U7 (by decide)) $$ [HV1 HO]
  · isplitr; · iexact HR
    isplitl [HV1]; · iexact HV1
    iexact HO
  iintro ⟨HO, HV1, HC1⟩
  ihave HC1 := (c_split m c 1).1 $$ HC1
  icases HC1 with ⟨Hcl1, Hcr1⟩
  iapply (step_send_f m K c 9 (by decide) U7 U8 (by decide) (by decide) (dev10_eq c)) $$ [Hcl1 HS9 HO]
  · isplitr; · iexact HR
    isplitl [Hcl1]; · iexact Hcl1
    isplitl [HS9]; · iexact HS9
    iexact HO
  iintro ⟨HS9, HO⟩
  iapply (step_send_x m K c 3 (by decide) U8 U9 (by decide) (by decide) (dev11_eq c)) $$ [Hxl3 HS3 HO]
  · isplitr; · iexact HR
    isplitl [Hxl3]; · iexact Hxl3
    isplitl [HS3]; · iexact HS3
    iexact HO
  iintro ⟨HS3, HO⟩
  iapply (step_ret c); iapply Hk $$ %_ [HV1 Hcr1 HS9 HS3 HO]
  isplitl [HV1]; · iexact HV1
  isplitl [Hcr1]; · iexact Hcr1
  isplitl [HS9]; · iexact HS9
  isplitl [HS3]; · iexact HS3
  iexact HO

/-- The right neighbour’s fourth quarter received and forwarded, its third received. -/
theorem part9 (c : Dev nD) (v13 v219 : BitVec 32) (Q : PUnit → sProp (MT nD τ sig Unit (Elt F) ℕ UU ℕ)) :
    iprop(Rec m K ∗ RecvRes c 7 ∗ SendRes c 10 ∗ RecvRes c 6 ∗ owesX c (Osum c U9)
        ∗ ((Zr c (rS 7) ∗ cPts m c fullShare.right 7 ∗ Sent c 10 ∗ Zr c (rS 6) ∗ cPts m c fullShare 6 ∗ owesX c (Osum c U10)) -∗ Q ⟨⟩))
      ⊢ WP c (k0_part9 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v219) Q := by
  simp only [k0_part9_eq_skeleton]; unfold k0_part9_skel
  simp only [Prog.lift, Prog.bind_op, Prog.bind_ret, Prog.pure_eq_ret]
  iintro ⟨#HR, HV7, HS10, HV6, HO, Hk⟩
  iapply (step_recv m K c 7 U9 (by decide)) $$ [HV7 HO]
  · isplitr; · iexact HR
    isplitl [HV7]; · iexact HV7
    iexact HO
  iintro ⟨HO, HV7, HC7⟩
  ihave HC7 := (c_split m c 7).1 $$ HC7
  icases HC7 with ⟨Hcl7, Hcr7⟩
  iapply (step_send_f m K c 10 (by decide) U9 U10 (by decide) (by decide) (dev12_eq c)) $$ [Hcl7 HS10 HO]
  · isplitr; · iexact HR
    isplitl [Hcl7]; · iexact Hcl7
    isplitl [HS10]; · iexact HS10
    iexact HO
  iintro ⟨HS10, HO⟩
  iapply (step_recv m K c 6 U10 (by decide)) $$ [HV6 HO]
  · isplitr; · iexact HR
    isplitl [HV6]; · iexact HV6
    iexact HO
  iintro ⟨HO, HV6, HC6⟩
  iapply (step_ret c); iapply Hk
  isplitl [HV7]; · iexact HV7
  isplitl [Hcr7]; · iexact Hcr7
  isplitl [HS10]; · iexact HS10
  isplitl [HV6]; · iexact HV6
  isplitl [HC6]; · iexact HC6
  iexact HO

/-- The third forwarded; the first quarter to the left; the left neighbour’s first half multiplied. -/
theorem part10 (c : Dev nD) (f : Vec F S4096x512 .bf16) (v13 : BitVec 32) (Q : PUnit → sProp (MT nD τ sig Unit (Elt F) ℕ UU ℕ)) :
    iprop(Rec m K ∗ cPts m c fullShare 6 ∗ SendRes c 11 ∗ xPts m c fullShare.right.left 0 ∗ SendRes c 4 ∗ cPts m c fullShare.right 0 ∗ cPts m c fullShare.right 1 ∗ wbPts m c ∗ oPts c f ∗ owesX c (Osum c U10)
        ∗ ((cPts m c fullShare.right 6 ∗ Sent c 11 ∗ Sent c 4 ∗ cPts m c fullShare.right 0 ∗ cPts m c fullShare.right 1 ∗ wbPts m c ∗ oPts c (put (r2 c) (k0_pay8 (rowsL m c) (wbF m c)) f) ∗ owesX c (Osum c ∅)) -∗ Q ⟨⟩))
      ⊢ WP c (k0_part10 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13) Q := by
  simp only [k0_part10_eq_skeleton]; unfold k0_part10_skel
  simp only [Prog.lift, Prog.bind_op, Prog.bind_ret, Prog.pure_eq_ret]
  iintro ⟨#HR, HC6, HS11, Hxm0, HS4, Hcr0, Hcr1, Hwb, Ho, HO, Hk⟩
  ihave HC6 := (c_split m c 6).1 $$ HC6
  icases HC6 with ⟨Hcl6, Hcr6⟩
  iapply (step_send_f m K c 11 (by decide) U10 U11 (by decide) (by decide) (dev13_eq c)) $$ [Hcl6 HS11 HO]
  · isplitr; · iexact HR
    isplitl [Hcl6]; · iexact Hcl6
    isplitl [HS11]; · iexact HS11
    iexact HO
  iintro ⟨HS11, HO⟩
  iapply (step_send_x m K c 4 (by decide) U11 ∅ (by decide) (by decide) (dev14_eq c)) $$ [Hxm0 HS4 HO]
  · isplitr; · iexact HR
    isplitl [Hxm0]; · iexact Hxm0
    isplitl [HS4]; · iexact HS4
    iexact HO
  iintro ⟨HS4, HO⟩
  iapply (step_load_two m c 0 1 fullShare.right rfl rfl) $$ [Hcr0 Hcr1]
  · isplitl [Hcr0] <;> iassumption
  iintro ⟨Hcr0, Hcr1⟩
  iapply (step_load_wb m c) $$ Hwb; iintro Hwb
  iapply (step_load_o c _) $$ Ho; iintro %_ Ho
  iapply (step_store_o c _) $$ Ho; iintro Ho
  iapply (step_ret c); iapply Hk
  isplitl [Hcr6]; · iexact Hcr6
  isplitl [HS11]; · iexact HS11
  isplitl [HS4]; · iexact HS4
  isplitl [Hcr0]; · iexact Hcr0
  isplitl [Hcr1]; · iexact Hcr1
  isplitl [Hwb]; · iexact Hwb
  isplitl [Ho]; · iexact Ho
  iexact HO

/-- The right neighbour’s second half multiplied; the left neighbour’s third quarter received and multiplied. -/
theorem part11 (c : Dev nD) (f : Vec F S4096x512 .bf16) (v13 v24 : BitVec 32) (Q : FVec F S256x512 .bf16 → sProp (MT nD τ sig Unit (Elt F) ℕ UU ℕ)) :
    iprop(Rec m K ∗ cPts m c fullShare.right 6 ∗ cPts m c fullShare.right 7 ∗ wbPts m c ∗ oPts c f ∗ RecvRes c 2 ∗ owesX c (Osum c ∅)
        ∗ ((cPts m c fullShare.right 6 ∗ cPts m c fullShare.right 7 ∗ wbPts m c ∗ oPts c (put (r3 c) (k0_pay9 (rowsR m c) (wbF m c)) f) ∗ Zr c (rS 2) ∗ cPts m c fullShare 2 ∗ owesX c (Osum c ∅)) -∗ Q (k0_pay10 (rowsOf m c 2) (wbF m c))))
      ⊢ WP c (k0_part11 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v24) Q := by
  simp only [k0_part11_eq_skeleton]; unfold k0_part11_skel
  simp only [Prog.lift, Prog.bind_op, Prog.bind_ret, Prog.pure_eq_ret]
  iintro ⟨#HR, Hcr6, Hcr7, Hwb, Ho, HV2, HO, Hk⟩
  iapply (step_load_two m c 6 7 fullShare.right rfl rfl) $$ [Hcr6 Hcr7]
  · isplitl [Hcr6] <;> iassumption
  iintro ⟨Hcr6, Hcr7⟩
  iapply (step_load_wb m c) $$ Hwb; iintro Hwb
  iapply (step_load_o c _) $$ Ho; iintro %_ Ho
  iapply (step_store_o c _) $$ Ho; iintro Ho
  iapply (step_recv m K c 2 ∅ (by decide)) $$ [HV2 HO]
  · isplitr; · iexact HR
    isplitl [HV2]; · iexact HV2
    iexact HO
  iintro ⟨HO, HV2, HC2⟩
  iapply (step_load_q m c 2 fullShare) $$ HC2; iintro HC2
  iapply (step_load_wb m c) $$ Hwb; iintro Hwb
  iapply (step_ret c); iapply Hk
  isplitl [Hcr6]; · iexact Hcr6
  isplitl [Hcr7]; · iexact Hcr7
  isplitl [Hwb]; · iexact Hwb
  isplitl [Ho]; · iexact Ho
  isplitl [HV2]; · iexact HV2
  isplitl [HC2]; · iexact HC2
  iexact HO

/-- That block written; the right neighbour’s second quarter. -/
theorem part12 (c : Dev nD) (f : Vec F S4096x512 .bf16) (v2 v13 v24 : BitVec 32) (w : FVec F S256x512 .bf16) (Q : (Σ' (_ : BitVec 32) (_ : BitVec 1), BitVec 32) → sProp (MT nD τ sig Unit (Elt F) ℕ UU ℕ)) :
    iprop(Rec m K ∗ wbPts m c ∗ oPts c f ∗ RecvRes c 5 ∗ owesX c (Osum c ∅)
        ∗ (∀ v, (wbPts m c ∗ oPts c (put (r5 c) (k0_pay11 (rowsOf m c 5) (wbF m c)) (put (r4 c) w f)) ∗ Zr c (rS 5) ∗ cPts m c fullShare 5 ∗ owesX c (Osum c ∅)) -∗ Q v))
      ⊢ WP c (k0_part12 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v2 v13 v24 w) Q := by
  simp only [k0_part12_eq_skeleton]; unfold k0_part12_skel
  simp only [Prog.lift, Prog.bind_op, Prog.bind_ret, Prog.pure_eq_ret]
  iintro ⟨#HR, Hwb, Ho, HV5, HO, Hk⟩
  iapply (step_load_o c _) $$ Ho; iintro %_ Ho
  iapply (step_store_o c _) $$ Ho; iintro Ho
  iapply (step_recv m K c 5 ∅ (by decide)) $$ [HV5 HO]
  · isplitr; · iexact HR
    isplitl [HV5]; · iexact HV5
    iexact HO
  iintro ⟨HO, HV5, HC5⟩
  iapply (step_load_q m c 5 fullShare) $$ HC5; iintro HC5
  iapply (step_load_wb m c) $$ Hwb; iintro Hwb
  iapply (step_load_o c _) $$ Ho; iintro %_ Ho
  iapply (step_store_o c _) $$ Ho; iintro Ho
  iapply (step_ret c); iapply Hk $$ %_ [Hwb Ho HV5 HC5 HO]
  isplitl [Hwb]; · iexact Hwb
  isplitl [Ho]; · iexact Ho
  isplitl [HV5]; · iexact HV5
  isplitl [HC5]; · iexact HC5
  iexact HO

/-- The opposite device’s first quarter. -/
theorem part13 (c : Dev nD) (f : Vec F S4096x512 .bf16) (v13 v24 v328 : BitVec 32) (v333 : BitVec 1) (v334 : BitVec 32) (Q : BitVec 32 → sProp (MT nD τ sig Unit (Elt F) ℕ UU ℕ)) :
    iprop(Rec m K ∗ wbPts m c ∗ oPts c f ∗ RecvRes c 8 ∗ RecvRes c 10 ∗ owesX c (Osum c ∅)
        ∗ (∀ v, (wbPts m c ∗ oPts c (put (r6 c) (k0_pay12 (rowsOf m c 8) (wbF m c)) f) ∗ Zr c (rS 8) ∗ cPts m c fullShare 8 ∗ Zr c (rS 10) ∗ cPts m c fullShare 10 ∗ owesX c (Osum c ∅)) -∗ Q v))
      ⊢ WP c (k0_part13 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v24 v328 v333 v334) Q := by
  simp only [k0_part13_eq_skeleton]; unfold k0_part13_skel
  simp only [Prog.lift, Prog.bind_op, Prog.bind_ret, Prog.pure_eq_ret]
  iintro ⟨#HR, Hwb, Ho, HV8, HV10, HO, Hk⟩
  iapply (step_recv m K c 8 ∅ (by decide)) $$ [HV8 HO]
  · isplitr; · iexact HR
    isplitl [HV8]; · iexact HV8
    iexact HO
  iintro ⟨HO, HV8, HC8⟩
  iapply (step_load_q m c 8 fullShare) $$ HC8; iintro HC8
  iapply (step_load_wb m c) $$ Hwb; iintro Hwb
  iapply (step_load_o c _) $$ Ho; iintro %_ Ho
  iapply (step_store_o c _) $$ Ho; iintro Ho
  iapply (step_recv m K c 10 ∅ (by decide)) $$ [HV10 HO]
  · isplitr; · iexact HR
    isplitl [HV10]; · iexact HV10
    iexact HO
  iintro ⟨HO, HV10, HC10⟩
  iapply (step_ret c); iapply Hk $$ %_ [Hwb Ho HV8 HC8 HV10 HC10 HO]
  isplitl [Hwb]; · iexact Hwb
  isplitl [Ho]; · iexact Ho
  isplitl [HV8]; · iexact HV8
  isplitl [HC8]; · iexact HC8
  isplitl [HV10]; · iexact HV10
  isplitl [HC10]; · iexact HC10
  iexact HO

/-- Its fourth, and its second multiplied. -/
theorem part14 (c : Dev nD) (f : Vec F S4096x512 .bf16) (v24 v335 : BitVec 32) (Q : FVec F S256x512 .bf16 → sProp (MT nD τ sig Unit (Elt F) ℕ UU ℕ)) :
    iprop(Rec m K ∗ wbPts m c ∗ oPts c f ∗ cPts m c fullShare 10 ∗ RecvRes c 9 ∗ owesX c (Osum c ∅)
        ∗ ((wbPts m c ∗ oPts c (put (r7 c) (k0_pay13 (rowsOf m c 10) (wbF m c)) f) ∗ cPts m c fullShare 10 ∗ Zr c (rS 9) ∗ cPts m c fullShare 9 ∗ owesX c (Osum c ∅)) -∗ Q (k0_pay14 (rowsOf m c 9) (wbF m c))))
      ⊢ WP c (k0_part14 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v24 v335) Q := by
  simp only [k0_part14_eq_skeleton]; unfold k0_part14_skel
  simp only [Prog.lift, Prog.bind_op, Prog.bind_ret, Prog.pure_eq_ret]
  iintro ⟨#HR, Hwb, Ho, HC10, HV9, HO, Hk⟩
  iapply (step_load_q m c 10 fullShare) $$ HC10; iintro HC10
  iapply (step_load_wb m c) $$ Hwb; iintro Hwb
  iapply (step_load_o c _) $$ Ho; iintro %_ Ho
  iapply (step_store_o c _) $$ Ho; iintro Ho
  iapply (step_recv m K c 9 ∅ (by decide)) $$ [HV9 HO]
  · isplitr; · iexact HR
    isplitl [HV9]; · iexact HV9
    iexact HO
  iintro ⟨HO, HV9, HC9⟩
  iapply (step_load_q m c 9 fullShare) $$ HC9; iintro HC9
  iapply (step_load_wb m c) $$ Hwb; iintro Hwb
  iapply (step_load_o c _) $$ Ho; iintro %_ Ho
  iapply (step_ret c); iapply Hk
  isplitl [Hwb]; · iexact Hwb
  isplitl [Ho]; · iexact Ho
  isplitl [HC10]; · iexact HC10
  isplitl [HV9]; · iexact HV9
  isplitl [HC9]; · iexact HC9
  iexact HO

/-- That block written; the opposite device’s third quarter. -/
theorem part15 (c : Dev nD) (f : Vec F S4096x512 .bf16) (v13 v24 v335 : BitVec 32) (v : FVec F S256x512 .bf16) (Q : PUnit → sProp (MT nD τ sig Unit (Elt F) ℕ UU ℕ)) :
    iprop(Rec m K ∗ wbPts m c ∗ oPts c f ∗ RecvRes c 11 ∗ owesX c (Osum c ∅)
        ∗ ((wbPts m c ∗ oPts c (put (r9 c) (k0_pay15 (rowsOf m c 11) (wbF m c)) (put (r8 c) v f)) ∗ Zr c (rS 11) ∗ cPts m c fullShare 11 ∗ owesX c (Osum c ∅)) -∗ Q ⟨⟩))
      ⊢ WP c (k0_part15 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v24 v335 v) Q := by
  simp only [k0_part15_eq_skeleton]; unfold k0_part15_skel
  simp only [Prog.lift, Prog.bind_op, Prog.bind_ret, Prog.pure_eq_ret]
  iintro ⟨#HR, Hwb, Ho, HV11, HO, Hk⟩
  iapply (step_store_o c _) $$ Ho; iintro Ho
  iapply (step_recv m K c 11 ∅ (by decide)) $$ [HV11 HO]
  · isplitr; · iexact HR
    isplitl [HV11]; · iexact HV11
    iexact HO
  iintro ⟨HO, HV11, HC11⟩
  iapply (step_load_q m c 11 fullShare) $$ HC11; iintro HC11
  iapply (step_load_wb m c) $$ Hwb; iintro Hwb
  iapply (step_load_o c _) $$ Ho; iintro %_ Ho
  iapply (step_store_o c _) $$ Ho; iintro Ho
  iapply (step_ret c); iapply Hk
  isplitl [Hwb]; · iexact Hwb
  isplitl [Ho]; · iexact Ho
  isplitl [HV11]; · iexact HV11
  isplitl [HC11]; · iexact HC11
  iexact HO

/-- The left neighbour’s fourth quarter; the right neighbour’s first multiplied. -/
theorem part16 (c : Dev nD) (f : Vec F S4096x512 .bf16) (v13 v24 : BitVec 32) (Q : FVec F S256x512 .bf16 → sProp (MT nD τ sig Unit (Elt F) ℕ UU ℕ)) :
    iprop(Rec m K ∗ wbPts m c ∗ oPts c f ∗ RecvRes c 3 ∗ RecvRes c 4 ∗ owesX c (Osum c ∅)
        ∗ ((wbPts m c ∗ oPts c (put (r10 c) (k0_pay16 (rowsOf m c 3) (wbF m c)) f) ∗ Zr c (rS 3) ∗ cPts m c fullShare 3 ∗ Zr c (rS 4) ∗ cPts m c fullShare 4 ∗ owesX c (Osum c ∅)) -∗ Q (k0_pay17 (rowsOf m c 4) (wbF m c))))
      ⊢ WP c (k0_part16 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v13 v24) Q := by
  simp only [k0_part16_eq_skeleton]; unfold k0_part16_skel
  simp only [Prog.lift, Prog.bind_op, Prog.bind_ret, Prog.pure_eq_ret]
  iintro ⟨#HR, Hwb, Ho, HV3, HV4, HO, Hk⟩
  iapply (step_recv m K c 3 ∅ (by decide)) $$ [HV3 HO]
  · isplitr; · iexact HR
    isplitl [HV3]; · iexact HV3
    iexact HO
  iintro ⟨HO, HV3, HC3⟩
  iapply (step_load_q m c 3 fullShare) $$ HC3; iintro HC3
  iapply (step_load_wb m c) $$ Hwb; iintro Hwb
  iapply (step_load_o c _) $$ Ho; iintro %_ Ho
  iapply (step_store_o c _) $$ Ho; iintro Ho
  iapply (step_recv m K c 4 ∅ (by decide)) $$ [HV4 HO]
  · isplitr; · iexact HR
    isplitl [HV4]; · iexact HV4
    iexact HO
  iintro ⟨HO, HV4, HC4⟩
  iapply (step_load_q m c 4 fullShare) $$ HC4; iintro HC4
  iapply (step_load_wb m c) $$ Hwb; iintro Hwb
  iapply (step_ret c); iapply Hk
  isplitl [Hwb]; · iexact Hwb
  isplitl [Ho]; · iexact Ho
  isplitl [HV3]; · iexact HV3
  isplitl [HC3]; · iexact HC3
  isplitl [HV4]; · iexact HV4
  isplitl [HC4]; · iexact HC4
  iexact HO

/-- That block written; the first sends waited for. -/
theorem part17 (c : Dev nD) (f : Vec F S4096x512 .bf16) (v : FVec F S256x512 .bf16) (Q : PUnit → sProp (MT nD τ sig Unit (Elt F) ℕ UU ℕ)) :
    iprop(Rec m K ∗ oPts c f ∗ Sent c 0 ∗ Sent c 1 ∗ Sent c 2 ∗ owesX c (Osum c ∅)
        ∗ ((oPts c (put (r11 c) v f) ∗ Zr c (sS 0) ∗ sendPay m c 0 ∗ Zr c (sS 1) ∗ sendPay m c 1 ∗ Zr c (sS 2) ∗ sendPay m c 2 ∗ owesX c (Osum c ∅)) -∗ Q ⟨⟩))
      ⊢ WP c (k0_part17 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7 c v) Q := by
  simp only [k0_part17_eq_skeleton]; unfold k0_part17_skel
  simp only [Prog.lift, Prog.bind_op, Prog.bind_ret, Prog.pure_eq_ret]
  iintro ⟨#HR, Ho, HS0, HS1, HS2, HO, Hk⟩
  iapply (step_load_o c _) $$ Ho; iintro %_ Ho
  iapply (step_store_o c _) $$ Ho; iintro Ho
  iapply (step_sent_x m K c 0 ∅) $$ [HS0 HO]
  · isplitr; · iexact HR
    isplitl [HS0]; · iexact HS0
    iexact HO
  iintro ⟨HO, HS0, HP0⟩
  iapply (step_sent_x m K c 1 ∅) $$ [HS1 HO]
  · isplitr; · iexact HR
    isplitl [HS1]; · iexact HS1
    iexact HO
  iintro ⟨HO, HS1, HP1⟩
  iapply (step_sent_x m K c 2 ∅) $$ [HS2 HO]
  · isplitr; · iexact HR
    isplitl [HS2]; · iexact HS2
    iexact HO
  iintro ⟨HO, HS2, HP2⟩
  iapply (step_ret c); iapply Hk
  isplitl [Ho]; · iexact Ho
  isplitl [HS0]; · iexact HS0
  isplitl [HP0]; · iexact HP0
  isplitl [HS1]; · iexact HS1
  isplitl [HP1]; · iexact HP1
  isplitl [HS2]; · iexact HS2
  isplitl [HP2]; · iexact HP2
  iexact HO

/-- More sends waited for. -/
theorem part18 (c : Dev nD) (Q : PUnit → sProp (MT nD τ sig Unit (Elt F) ℕ UU ℕ)) :
    iprop(Rec m K ∗ Sent c 3 ∗ Sent c 4 ∗ Sent c 5 ∗ owesX c (Osum c ∅)
        ∗ ((Zr c (sS 3) ∗ sendPay m c 3 ∗ Zr c (sS 4) ∗ sendPay m c 4 ∗ Zr c (sS 5) ∗ sendPay m c 5 ∗ owesX c (Osum c ∅)) -∗ Q ⟨⟩))
      ⊢ WP c (k0_part18 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7) Q := by
  simp only [k0_part18_eq_skeleton]; unfold k0_part18_skel
  simp only [Prog.lift, Prog.bind_op, Prog.bind_ret, Prog.pure_eq_ret]
  iintro ⟨#HR, HS3, HS4, HS5, HO, Hk⟩
  iapply (step_sent_x m K c 3 ∅) $$ [HS3 HO]
  · isplitr; · iexact HR
    isplitl [HS3]; · iexact HS3
    iexact HO
  iintro ⟨HO, HS3, HP3⟩
  iapply (step_sent_x m K c 4 ∅) $$ [HS4 HO]
  · isplitr; · iexact HR
    isplitl [HS4]; · iexact HS4
    iexact HO
  iintro ⟨HO, HS4, HP4⟩
  iapply (step_sent_x m K c 5 ∅) $$ [HS5 HO]
  · isplitr; · iexact HR
    isplitl [HS5]; · iexact HS5
    iexact HO
  iintro ⟨HO, HS5, HP5⟩
  iapply (step_ret c); iapply Hk
  isplitl [HS3]; · iexact HS3
  isplitl [HP3]; · iexact HP3
  isplitl [HS4]; · iexact HS4
  isplitl [HP4]; · iexact HP4
  isplitl [HS5]; · iexact HS5
  isplitl [HP5]; · iexact HP5
  iexact HO

/-- More sends waited for. -/
theorem part19 (c : Dev nD) (Q : PUnit → sProp (MT nD τ sig Unit (Elt F) ℕ UU ℕ)) :
    iprop(Rec m K ∗ Sent c 6 ∗ Sent c 7 ∗ Sent c 8 ∗ Sent c 9 ∗ owesX c (Osum c ∅)
        ∗ ((Zr c (sS 6) ∗ sendPay m c 6 ∗ Zr c (sS 7) ∗ sendPay m c 7 ∗ Zr c (sS 8) ∗ sendPay m c 8 ∗ Zr c (sS 9) ∗ sendPay m c 9 ∗ owesX c (Osum c ∅)) -∗ Q ⟨⟩))
      ⊢ WP c (k0_part19 (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7) Q := by
  simp only [k0_part19_eq_skeleton]; unfold k0_part19_skel
  simp only [Prog.lift, Prog.bind_op, Prog.bind_ret, Prog.pure_eq_ret]
  iintro ⟨#HR, HS6, HS7, HS8, HS9, HO, Hk⟩
  iapply (step_sent_x m K c 6 ∅) $$ [HS6 HO]
  · isplitr; · iexact HR
    isplitl [HS6]; · iexact HS6
    iexact HO
  iintro ⟨HO, HS6, HP6⟩
  iapply (step_sent_x m K c 7 ∅) $$ [HS7 HO]
  · isplitr; · iexact HR
    isplitl [HS7]; · iexact HS7
    iexact HO
  iintro ⟨HO, HS7, HP7⟩
  iapply (step_sent_f m K c 8 ∅) $$ [HS8 HO]
  · isplitr; · iexact HR
    isplitl [HS8]; · iexact HS8
    iexact HO
  iintro ⟨HO, HS8, HP8⟩
  iapply (step_sent_f m K c 9 ∅) $$ [HS9 HO]
  · isplitr; · iexact HR
    isplitl [HS9]; · iexact HS9
    iexact HO
  iintro ⟨HO, HS9, HP9⟩
  iapply (step_ret c); iapply Hk
  isplitl [HS6]; · iexact HS6
  isplitl [HP6]; · iexact HP6
  isplitl [HS7]; · iexact HS7
  isplitl [HP7]; · iexact HP7
  isplitl [HS8]; · iexact HS8
  isplitl [HP8]; · iexact HP8
  isplitl [HS9]; · iexact HS9
  isplitl [HP9]; · iexact HP9
  iexact HO

end Cert.RingProof
-- ==== Proof.Body.lean ====
/-
The body as a whole: its nineteen parts in order, the last two waits, and what comes back at the end.
-/
module

public import proofs.«01_k».proof.Proof.PartsB

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Fin 28 → ℕ)

/-! # The whole body -/

theorem wp_seq {α β : Type} (c : Dev nD) {p : Prog (TpuEff nD τ sig (Elt F) Λ₀ .tc) β} {k : β → Prog (TpuEff nD τ sig (Elt F) Λ₀ .tc) α}
    {Q : α → sProp (MT nD τ sig Unit (Elt F) ℕ UU ℕ)} : WP c p (fun x => WP c (k x) Q) ⊢ WP c (p >>= k) Q := by
  show _ ⊢ wp _ _ _ _ _
  rw [wp_bind]

omit [FloatOps F] in
theorem twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]
  simp only [bigSepL_cons_cons, bigSepL_singleton]
  rfl

omit [FloatOps F] in
theorem barPay_true (c : Dev nD) : barPay c true ⊢ (iprop(cAny (tgt c 0) 0 ∗ cAny (tgt c 1) 1 ∗ cAny (tgt c 2) 2 ∗ cAny (tgt c 3) 3 ∗ cAny (tgt c 8) 8 ∗ cAny (tgt c 9) 9) : sProp 𝕄) :=
  Entails.of_eq (if_pos rfl)
omit [FloatOps F] in
theorem barPay_false (c : Dev nD) : barPay c false ⊢ (iprop(cAny (tgt c 4) 4 ∗ cAny (tgt c 5) 5 ∗ cAny (tgt c 6) 6 ∗ cAny (tgt c 7) 7 ∗ cAny (tgt c 10) 10 ∗ cAny (tgt c 11) 11) : sProp 𝕄) :=
  Entails.of_eq (if_neg Bool.false_ne_true)
omit [FloatOps F] in
theorem sendRes_intro (c : Dev nD) (j : Fin 12) : iprop(cAny (tgt c j) j ∗ SendTok c j) ⊢ (SendRes c j : sProp 𝕄) := BI.Entails.refl _

theorem slot_close (c : Dev nD) (s : Fin 2) : iprop(Rec m K ∗ SlotAt c s 2) ⊢ (|={Set.univ}=> Zr c (slS s) : sProp 𝕄) := by
  unfold SlotAt Zr
  iintro ⟨#HR, Hat, -⟩
  ihave Hi := (Rec_dma m K c (slS s) (slS_ne s)) $$ HR
  icases Hi with ⟨#Hi, -⟩
  imod (Rounds.cell_close ER (Rd m) (Set.mem_univ (K (c, slS s))) (fun h => h) (R := 2) (duties_later m _)) $$ [Hat] with Hz
  · isplitr; · iexact Hi
    iexact Hat
  imodintro
  iexact Hz

/-- The gather buffer's quarters whole again, once the four forwards have handed back what they borrowed. -/
theorem gather_join (c : Dev nD) :
    iprop(sendPay m c 8 ∗ sendPay m c 9 ∗ sendPay m c 10 ∗ sendPay m c 11
        ∗ cPts m c fullShare.right 0 ∗ cPts m c fullShare.right 1 ∗ cPts m c fullShare.right 6 ∗ cPts m c fullShare.right 7
        ∗ cPts m c fullShare 2 ∗ cPts m c fullShare 3 ∗ cPts m c fullShare 4 ∗ cPts m c fullShare 5
        ∗ cPts m c fullShare 8 ∗ cPts m c fullShare 9 ∗ cPts m c fullShare 10 ∗ cPts m c fullShare 11)
      ⊢ (bigSep Finset.univ fun j : Fin 12 => cPts m c fullShare j) := by
  rw [twelve, show sendPay m c 8 = cPts m c fullShare.left 0 from rfl, show sendPay m c 9 = cPts m c fullShare.left 1 from rfl,
    show sendPay m c 10 = cPts m c fullShare.left 7 from rfl, show sendPay m c 11 = cPts m c fullShare.left 6 from rfl]
  iintro ⟨H0, H1, H7, H6, R0, R1, R6, R7, H2, H3, H4, H5, H8, H9, H10, H11⟩
  ihave H0 := (c_split m c 0).2 $$ [H0 R0]
  · isplitl [H0]; · iexact H0
    iexact R0
  ihave H1 := (c_split m c 1).2 $$ [H1 R1]
  · isplitl [H1]; · iexact H1
    iexact R1
  ihave H6 := (c_split m c 6).2 $$ [H6 R6]
  · isplitl [H6]; · iexact H6
    iexact R6
  ihave H7 := (c_split m c 7).2 $$ [H7 R7]
  · isplitl [H7]; · iexact H7
    iexact R7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- What the body leaves in the output's staging buffer: the eleven blocks it stores, over what was there. -/
def outC (c : Dev nD) (f : Vec F S4096x512 .bf16) : Vec F S4096x512 .bf16 :=
  put (r11 c) (k0_pay17 (rowsOf m c 4) (wbF m c)) (put (r10 c) (k0_pay16 (rowsOf m c 3) (wbF m c))
    (put (r9 c) (k0_pay15 (rowsOf m c 11) (wbF m c)) (put (r8 c) (k0_pay14 (rowsOf m c 9) (wbF m c))
    (put (r7 c) (k0_pay13 (rowsOf m c 10) (wbF m c)) (put (r6 c) (k0_pay12 (rowsOf m c 8) (wbF m c))
    (put (r5 c) (k0_pay11 (rowsOf m c 5) (wbF m c)) (put (r4 c) (k0_pay10 (rowsOf m c 2) (wbF m c))
    (put (r3 c) (k0_pay9 (rowsR m c) (wbF m c)) (put (r2 c) (k0_pay8 (rowsL m c) (wbF m c))
    (put (r1 c) (k0_pay7 (k0_pay6 (xbF m c) (wbF m c))) f))))))))))

/-- What the body starts from, -/
def BodyIn (c : Dev nD) (f : Vec F S4096x512 .bf16) : sProp 𝕄 :=
  iprop(BarIn c ∗ mineL c ∗ mineR c ∗ owesX c (O₀ c) ∗ oPts c f
    ∗ (bigSep Finset.univ fun j : Fin 12 => SendTok c j) ∗ (bigSep Finset.univ fun j : Fin 12 => RecvRes c j)
    ∗ wPts m c ∗ wsAny c ∗ wbAny c ∗ WTok c ∗ (bigSep Finset.univ fun q : Fin 4 => aPts m c q) ∗ sAny c 0 ∗ sAny c 1
    ∗ SlotTok c 0 0 ∗ SlotTok c 0 1 ∗ SlotTok c 1 0 ∗ SlotTok c 1 1 ∗ SlotAt c 0 0 ∗ SlotAt c 1 0
    ∗ (bigSep Finset.univ fun q : Fin 4 => xAny c q))
/-- and what it ends with. -/
def BodyEnd (c : Dev nD) (f : Vec F S4096x512 .bf16) : sProp 𝕄 :=
  iprop(semVal (barCell c) 0 ∗ (bigSep Finset.univ fun j : Fin 12 => Zr c (sS j)) ∗ (bigSep Finset.univ fun j : Fin 12 => Zr c (rS j))
    ∗ Zr c wlS ∗ Zr c (slS 0) ∗ Zr c (slS 1) ∗ wPts m c ∗ (bigSep Finset.univ fun q : Fin 4 => aPts m c q) ∗ wsPts m c ∗ wbPts m c
    ∗ sAny c 0 ∗ sAny c 1 ∗ oPts c (outC m c f) ∗ owesX c (Osum c ∅)
    ∗ (xWhole m c ∗ sendPay m c 0 ∗ sendPay m c 1 ∗ sendPay m c 2 ∗ sendPay m c 3 ∗ sendPay m c 4 ∗ sendPay m c 5 ∗ sendPay m c 6 ∗ sendPay m c 7)
    ∗ (bigSep Finset.univ fun j : Fin 12 => cPts m c fullShare j))

set_option maxHeartbeats 1600000 in
/-- The body, part by part. -/
theorem body_run (c : Dev nD) (f : Vec F S4096x512 .bf16) (Q : PUnit → sProp (MT nD τ sig Unit (Elt F) ℕ UU ℕ)) :
    iprop(Rec m K ∗ BodyIn m c f ∗ (BodyEnd m c f -∗ Q ⟨⟩))
      ⊢ WP c (cc0_body (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7) Q := by
  simp only [cc0_body_eq_skeleton]; unfold cc0_body_skel BodyIn
  rw [twelve, twelve, four, four]
  iintro ⟨#HR, ⟨Hbar, HmL, HmR, HO, Ho, ⟨HT0, HT1, HT2, HT3, HT4, HT5, HT6, HT7, HT8, HT9, HT10, HT11⟩, ⟨HV0, HV1, HV2, HV3, HV4, HV5, HV6, HV7, HV8, HV9, HV10, HV11⟩, Hw, Hws, Hwb, Hwt, ⟨Ha0, Ha1, Ha2, Ha3⟩, Hs0, Hs1, Ht00, Ht01, Ht10, Ht11, Hsa0, Hsa1, ⟨Hx0, Hx1, Hx2, Hx3⟩⟩, Hk⟩
  iapply (wp_seq c); iapply (part1 m K c _)
  isplitr; · iexact HR
  isplitl [Hbar]; · iexact Hbar
  isplitl [HmL]; · iexact HmL
  isplitl [HmR]; · iexact HmR
  isplitl [HO]; · iexact HO
  iintro %v2 %v13 %v24 ⟨Hzb, Hbf, Hbt, HO⟩
  ihave Hbt := (barPay_true c) $$ Hbt
  icases Hbt with ⟨HA0, HA1, HA2, HA3, HA8, HA9⟩
  ihave Hbf := (barPay_false c) $$ Hbf
  icases Hbf with ⟨HA4, HA5, HA6, HA7, HA10, HA11⟩
  ihave HS0 := (sendRes_intro c 0) $$ [HA0 HT0]
  · isplitl [HA0]; · iexact HA0
    iexact HT0
  ihave HS1 := (sendRes_intro c 1) $$ [HA1 HT1]
  · isplitl [HA1]; · iexact HA1
    iexact HT1
  ihave HS2 := (sendRes_intro c 2) $$ [HA2 HT2]
  · isplitl [HA2]; · iexact HA2
    iexact HT2
  ihave HS3 := (sendRes_intro c 3) $$ [HA3 HT3]
  · isplitl [HA3]; · iexact HA3
    iexact HT3
  ihave HS4 := (sendRes_intro c 4) $$ [HA4 HT4]
  · isplitl [HA4]; · iexact HA4
    iexact HT4
  ihave HS5 := (sendRes_intro c 5) $$ [HA5 HT5]
  · isplitl [HA5]; · iexact HA5
    iexact HT5
  ihave HS6 := (sendRes_intro c 6) $$ [HA6 HT6]
  · isplitl [HA6]; · iexact HA6
    iexact HT6
  ihave HS7 := (sendRes_intro c 7) $$ [HA7 HT7]
  · isplitl [HA7]; · iexact HA7
    iexact HT7
  ihave HS8 := (sendRes_intro c 8) $$ [HA8 HT8]
  · isplitl [HA8]; · iexact HA8
    iexact HT8
  ihave HS9 := (sendRes_intro c 9) $$ [HA9 HT9]
  · isplitl [HA9]; · iexact HA9
    iexact HT9
  ihave HS10 := (sendRes_intro c 10) $$ [HA10 HT10]
  · isplitl [HA10]; · iexact HA10
    iexact HT10
  ihave HS11 := (sendRes_intro c 11) $$ [HA11 HT11]
  · isplitl [HA11]; · iexact HA11
    iexact HT11
  beta_reduce
  iapply (wp_seq c); iapply (part2 m K c _)
  isplitr; · iexact HR
  isplitl [Hw]; · iexact Hw
  isplitl [Hws]; · iexact Hws
  isplitl [Hwt]; · iexact Hwt
  isplitl [Ha0]; · iexact Ha0
  isplitl [Ha3]; · iexact Ha3
  isplitl [Hs0]; · iexact Hs0
  isplitl [Hs1]; · iexact Hs1
  isplitl [Ht00]; · iexact Ht00
  isplitl [Ht10]; · iexact Ht10
  isplitl [Hsa0]; · iexact Hsa0
  isplitl [Hsa1]; · iexact Hsa1
  isplitl [Hx0]; · iexact Hx0
  isplitl [HO]; · iexact HO
  iintro ⟨Hwg, Hg1, Hsa0, Hs0, Ha0, Hx0, HO⟩
  beta_reduce
  ihave Hx0 := (x_split m c 0).1 $$ Hx0
  icases Hx0 with ⟨Hxl0, Hxm0, Hxr0⟩
  iapply (wp_seq c); iapply (part3 m K c _ _)
  isplitr; · iexact HR
  isplitl [Ha1]; · iexact Ha1
  isplitl [Ha2]; · iexact Ha2
  isplitl [Hs0]; · iexact Hs0
  isplitl [Ht01]; · iexact Ht01
  isplitl [Ht11]; · iexact Ht11
  isplitl [Hsa0]; · iexact Hsa0
  isplitl [Hg1]; · iexact Hg1
  isplitl [Hxl0]; · iexact Hxl0
  isplitl [HS0]; · iexact HS0
  isplitl [Hx3]; · iexact Hx3
  isplitl [HO]; · iexact HO
  iintro ⟨Hg0, HS0, Ha3, Hx3, Hg1, HO⟩
  beta_reduce
  ihave Hx3 := (x_split m c 3).1 $$ Hx3
  icases Hx3 with ⟨Hxl3, Hxm3, Hxr3⟩
  iapply (wp_seq c); iapply (part4 m K c _ _ _)
  isplitr; · iexact HR
  isplitl [Hxm3]; · iexact Hxm3
  isplitl [HS7]; · iexact HS7
  isplitl [Hg0]; · iexact Hg0
  isplitl [Hx1]; · iexact Hx1
  isplitl [HO]; · iexact HO
  iintro ⟨HS7, Hsa0, Hs0, Ha1, Hx1, HO⟩
  beta_reduce
  ihave Hx1 := (x_split m c 1).1 $$ Hx1
  icases Hx1 with ⟨Hxl1, Hxm1, Hxr1⟩
  iapply (wp_seq c); iapply (part5 m K c _ _ _)
  isplitr; · iexact HR
  isplitl [Hxl1]; · iexact Hxl1
  isplitl [HS1]; · iexact HS1
  isplitl [HS6]; · iexact HS6
  isplitl [Hg1]; · iexact Hg1
  isplitl [Hx2]; · iexact Hx2
  isplitl [HO]; · iexact HO
  iintro %v ⟨HS1, HS6, Hsa1, Hs1, Ha2, Hxl2, Hxr2, HO⟩
  beta_reduce
  ihave Hx := (Entails.of_eq (xWhole_eq m c).symm) $$ [Hxr0 Hxr1 Hxr2 Hxr3]
  · isplitl [Hxr0]; · iexact Hxr0
    isplitl [Hxr1]; · iexact Hxr1
    isplitl [Hxr2]; · iexact Hxr2
    iexact Hxr3
  iapply (wp_seq c); iapply (part6 m K c _ _ _ _)
  isplitr; · iexact HR
  isplitl [Hxl2]; · iexact Hxl2
  isplitl [HS2]; · iexact HS2
  isplitl [Hxm1]; · iexact Hxm1
  isplitl [HS5]; · iexact HS5
  isplitl [Hwg]; · iexact Hwg
  isplitl [Hwb]; · iexact Hwb
  isplitl [Hx]; · iexact Hx
  isplitl [HO]; · iexact HO
  iintro ⟨HS2, HS5, Hzw, Hws, Hw, Hwb, Hx, HO⟩
  beta_reduce
  iapply (wp_seq c); iapply (part7 m K c _ _ _ _ _)
  isplitr; · iexact HR
  isplitl [Ho]; · iexact Ho
  isplitl [HV0]; · iexact HV0
  isplitl [HS8]; · iexact HS8
  isplitl [HO]; · iexact HO
  iintro ⟨Ho, Hzr0, Hcr0, HS8, HO⟩
  beta_reduce
  iapply (wp_seq c); iapply (part8 m K c _ _ _)
  isplitr; · iexact HR
  isplitl [HV1]; · iexact HV1
  isplitl [HS9]; · iexact HS9
  isplitl [Hxl3]; · iexact Hxl3
  isplitl [HS3]; · iexact HS3
  isplitl [HO]; · iexact HO
  iintro %v219 ⟨Hzr1, Hcr1, HS9, HS3, HO⟩
  beta_reduce
  iapply (wp_seq c); iapply (part9 m K c _ _ _)
  isplitr; · iexact HR
  isplitl [HV7]; · iexact HV7
  isplitl [HS10]; · iexact HS10
  isplitl [HV6]; · iexact HV6
  isplitl [HO]; · iexact HO
  iintro ⟨Hzr7, Hcr7, HS10, Hzr6, HC6, HO⟩
  beta_reduce
  iapply (wp_seq c); iapply (part10 m K c _ _ _)
  isplitr; · iexact HR
  isplitl [HC6]; · iexact HC6
  isplitl [HS11]; · iexact HS11
  isplitl [Hxm0]; · iexact Hxm0
  isplitl [HS4]; · iexact HS4
  isplitl [Hcr0]; · iexact Hcr0
  isplitl [Hcr1]; · iexact Hcr1
  isplitl [Hwb]; · iexact Hwb
  isplitl [Ho]; · iexact Ho
  isplitl [HO]; · iexact HO
  iintro ⟨Hcr6, HS11, HS4, Hcr0, Hcr1, Hwb, Ho, HO⟩
  beta_reduce
  iapply (wp_seq c); iapply (part11 m K c _ _ _ _)
  isplitr; · iexact HR
  isplitl [Hcr6]; · iexact Hcr6
  isplitl [Hcr7]; · iexact Hcr7
  isplitl [Hwb]; · iexact Hwb
  isplitl [Ho]; · iexact Ho
  isplitl [HV2]; · iexact HV2
  isplitl [HO]; · iexact HO
  iintro ⟨Hcr6, Hcr7, Hwb, Ho, Hzr2, HC2, HO⟩
  beta_reduce
  iapply (wp_seq c); iapply (part12 m K c _ _ _ _ _ _)
  isplitr; · iexact HR
  isplitl [Hwb]; · iexact Hwb
  isplitl [Ho]; · iexact Ho
  isplitl [HV5]; · iexact HV5
  isplitl [HO]; · iexact HO
  iintro %u ⟨Hwb, Ho, Hzr5, HC5, HO⟩
  beta_reduce
  iapply (wp_seq c); iapply (part13 m K c _ _ _ _ _ _ _)
  isplitr; · iexact HR
  isplitl [Hwb]; · iexact Hwb
  isplitl [Ho]; · iexact Ho
  isplitl [HV8]; · iexact HV8
  isplitl [HV10]; · iexact HV10
  isplitl [HO]; · iexact HO
  iintro %v335 ⟨Hwb, Ho, Hzr8, HC8, Hzr10, HC10, HO⟩
  beta_reduce
  iapply (wp_seq c); iapply (part14 m K c _ _ _ _)
  isplitr; · iexact HR
  isplitl [Hwb]; · iexact Hwb
  isplitl [Ho]; · iexact Ho
  isplitl [HC10]; · iexact HC10
  isplitl [HV9]; · iexact HV9
  isplitl [HO]; · iexact HO
  iintro ⟨Hwb, Ho, HC10, Hzr9, HC9, HO⟩
  beta_reduce
  iapply (wp_seq c); iapply (part15 m K c _ _ _ _ _ _)
  isplitr; · iexact HR
  isplitl [Hwb]; · iexact Hwb
  isplitl [Ho]; · iexact Ho
  isplitl [HV11]; · iexact HV11
  isplitl [HO]; · iexact HO
  iintro ⟨Hwb, Ho, Hzr11, HC11, HO⟩
  beta_reduce
  iapply (wp_seq c); iapply (part16 m K c _ _ _ _)
  isplitr; · iexact HR
  isplitl [Hwb]; · iexact Hwb
  isplitl [Ho]; · iexact Ho
  isplitl [HV3]; · iexact HV3
  isplitl [HV4]; · iexact HV4
  isplitl [HO]; · iexact HO
  iintro ⟨Hwb, Ho, Hzr3, HC3, Hzr4, HC4, HO⟩
  beta_reduce
  iapply (wp_seq c); iapply (part17 m K c _ _ _)
  isplitr; · iexact HR
  isplitl [Ho]; · iexact Ho
  isplitl [HS0]; · iexact HS0
  isplitl [HS1]; · iexact HS1
  isplitl [HS2]; · iexact HS2
  isplitl [HO]; · iexact HO
  iintro ⟨Ho, HS0, HP0, HS1, HP1, HS2, HP2, HO⟩
  beta_reduce
  iapply (wp_seq c); iapply (part18 m K c _)
  isplitr; · iexact HR
  isplitl [HS3]; · iexact HS3
  isplitl [HS4]; · iexact HS4
  isplitl [HS5]; · iexact HS5
  isplitl [HO]; · iexact HO
  iintro ⟨HS3, HP3, HS4, HP4, HS5, HP5, HO⟩
  beta_reduce
  iapply (wp_seq c); iapply (part19 m K c _)
  isplitr; · iexact HR
  isplitl [HS6]; · iexact HS6
  isplitl [HS7]; · iexact HS7
  isplitl [HS8]; · iexact HS8
  isplitl [HS9]; · iexact HS9
  isplitl [HO]; · iexact HO
  iintro ⟨HS6, HP6, HS7, HP7, HS8, HP8, HS9, HP9, HO⟩
  beta_reduce
  simp only [Prog.lift, Prog.bind_op, Prog.bind_ret, Prog.pure_eq_ret]
  iapply (step_sent_f m K c 10 ∅) $$ [HS10 HO]
  · isplitr; · iexact HR
    isplitl [HS10]; · iexact HS10
    iexact HO
  iintro ⟨HO, HS10, HP10⟩
  iapply (step_sent_f m K c 11 ∅) $$ [HS11 HO]
  · isplitr; · iexact HR
    isplitl [HS11]; · iexact HS11
    iexact HO
  iintro ⟨HO, HS11, HP11⟩
  imod (slot_close m K c 0) $$ [Hsa0] with Hzl0
  · isplitr; · iexact HR
    iexact Hsa0
  imod (slot_close m K c 1) $$ [Hsa1] with Hzl1
  · isplitr; · iexact HR
    iexact Hsa1
  iapply (step_ret c); iapply Hk
  unfold BodyEnd
  isplitl [Hzb]; · iexact Hzb
  isplitl [HS0 HS1 HS2 HS3 HS4 HS5 HS6 HS7 HS8 HS9 HS10 HS11]
  · rw [twelve]
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11
  isplitl [Hzr0 Hzr1 Hzr2 Hzr3 Hzr4 Hzr5 Hzr6 Hzr7 Hzr8 Hzr9 Hzr10 Hzr11]
  · rw [twelve]
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    iexact Hzr11
  isplitl [Hzw]; · iexact Hzw
  isplitl [Hzl0]; · iexact Hzl0
  isplitl [Hzl1]; · iexact Hzl1
  isplitl [Hw]; · iexact Hw
  isplitl [Ha0 Ha1 Ha2 Ha3]
  · rw [four]
    isplitl [Ha0]; · iexact Ha0
    isplitl [Ha1]; · iexact Ha1
    isplitl [Ha2]; · iexact Ha2
    iexact Ha3
  isplitl [Hws]; · iexact Hws
  isplitl [Hwb]; · iexact Hwb
  isplitl [Hs0]; · iexact Hs0
  isplitl [Hs1]; · iexact Hs1
  isplitl [Ho]; · iexact Ho
  isplitl [HO]; · iexact HO
  isplitl [Hx HP0 HP1 HP2 HP3 HP4 HP5 HP6 HP7]
  · isplitl [Hx]; · iexact Hx
    isplitl [HP0]; · iexact HP0
    isplitl [HP1]; · iexact HP1
    isplitl [HP2]; · iexact HP2
    isplitl [HP3]; · iexact HP3
    isplitl [HP4]; · iexact HP4
    isplitl [HP5]; · iexact HP5
    isplitl [HP6]; · iexact HP6
    iexact HP7
  iapply (gather_join m c)
  isplitl [HP8]; · iexact HP8
  isplitl [HP9]; · iexact HP9
  isplitl [HP10]; · iexact HP10
  isplitl [HP11]; · iexact HP11
  isplitl [Hcr0]; · iexact Hcr0
  isplitl [Hcr1]; · iexact Hcr1
  isplitl [Hcr6]; · iexact Hcr6
  isplitl [Hcr7]; · iexact Hcr7
  isplitl [HC2]; · iexact HC2
  isplitl [HC3]; · iexact HC3
  isplitl [HC4]; · iexact HC4
  isplitl [HC5]; · iexact HC5
  isplitl [HC8]; · iexact HC8
  isplitl [HC9]; · iexact HC9
  isplitl [HC10]; · iexact HC10
  iexact HC11

end Cert.RingProof
-- ==== Proof.Out.lean ====
/-
The eleven blocks the body stores cover the output, so what it leaves there does not depend on what was there before.
-/
module

public import proofs.«01_k».proof.Proof.Body

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where the blocks lie -/

theorem off1_eq (c : Dev nD) : k0_off1 c = ![1024 * c.val, 0] := by revert c; decide +kernel
theorem off2_eq (c : Dev nD) : k0_off2 c = ![1024 * (prv c).val, 0] := by revert c; decide +kernel
theorem off3_eq (c : Dev nD) : k0_off3 c = ![1024 * (nxt c).val + 512, 0] := by revert c; decide +kernel
theorem off4_eq (c : Dev nD) : k0_off4 c 512#32 = ![1024 * (prv c).val + 512, 0] := by revert c; decide +kernel
theorem off5_eq (c : Dev nD) : k0_off5 c 1#32 256#32 = ![1024 * (nxt c).val + 256, 0] := by revert c; decide +kernel
theorem off6_eq (c : Dev nD) : k0_off5 c 2#32 0#32 = ![1024 * (nxt (nxt c)).val, 0] := by revert c; decide +kernel
theorem off7_eq (c : Dev nD) : k0_off5 c 2#32 768#32 = ![1024 * (nxt (nxt c)).val + 768, 0] := by revert c; decide +kernel
theorem off8_eq (c : Dev nD) : k0_off5 c 2#32 256#32 = ![1024 * (nxt (nxt c)).val + 256, 0] := by revert c; decide +kernel
theorem off9_eq (c : Dev nD) : k0_off5 c 2#32 512#32 = ![1024 * (nxt (nxt c)).val + 512, 0] := by revert c; decide +kernel
theorem off10_eq (c : Dev nD) : k0_off4 c 768#32 = ![1024 * (prv c).val + 768, 0] := by revert c; decide +kernel
theorem off11_eq (c : Dev nD) : k0_off5 c 1#32 0#32 = ![1024 * (nxt c).val, 0] := by revert c; decide +kernel

/-- A block of `h` full rows from row `a`, by membership. -/
theorem mem_block {off size : Fin 2 → ℕ} {inb : ∀ a, off a + size a ≤ S4096x512.size a} {a h : ℕ} (ho : off = ![a, 0]) (hs : size = ![h, 512])
    {i : S4096x512.Idx} : i ∈ (Rect.unit (s := S4096x512) off size inb).set ↔ a ≤ (i 0).val ∧ (i 0).val < a + h := by
  subst ho hs
  rw [Rect.mem_set_unit]
  constructor
  · intro hi; exact hi 0
  · intro hi b
    fin_cases b
    · exact hi
    · exact ⟨Nat.zero_le _, by have := (i 1).isLt; simpa using this⟩

/-- A written block at a cell of it, and off it. -/
theorem put_emb (r : Rect S4096x512) (w : r.shape.Idx → Elt F .bf16) (f : Vec F S4096x512 .bf16) (y : r.shape.Idx) : put r w f (r.emb y) = w y :=
  View.write_emb_of_mem (v := oM.access r) f w (Finset.mem_univ y)
theorem put_off (r : Rect S4096x512) (w : r.shape.Idx → Elt F .bf16) (f : Vec F S4096x512 .bf16) {i : S4096x512.Idx} (h : i ∉ r.set) : put r w f i = f i :=
  View.write_of_not_mem (v := oM.access r) f w Finset.univ (by rw [show (oM.access r).setOn Finset.univ = r.set from (View.setOn_univ _).trans (View.set_slice_whole _ _)]; exact h)

/-- To know a cell after a block is written, it is enough to know the block's own cell there, and off the block the cell before. -/
theorem put_val {r : Rect S4096x512} {w : r.shape.Idx → Elt F .bf16} {f : Vec F S4096x512 .bf16} {i : S4096x512.Idx} {v : Elt F .bf16}
    (hin : ∀ y, r.emb y = i → w y = v) (hout : i ∉ r.set → f i = v) : put r w f i = v := by
  by_cases h : i ∈ r.set
  · obtain ⟨y, rfl⟩ : ∃ y, r.emb y = i := r.toLoadRect.exists_idx_of_mem h
    rw [put_emb]; exact hin y rfl
  · rw [put_off r w f h]; exact hout h
theorem put_same {r : Rect S4096x512} {w : r.shape.Idx → Elt F .bf16} {f f' : Vec F S4096x512 .bf16} {i : S4096x512.Idx}
    (hout : i ∉ r.set → f i = f' i) : put r w f i = put r w f' i :=
  put_val (fun y hy => by rw [← hy, put_emb]) (fun h => by rw [put_off r w f' h]; exact hout h)

/-- Every row is in a block. -/
theorem blocks_cover (c : Dev nD) (i : S4096x512.Idx) (h1 : i ∉ (r1 c).set) (h2 : i ∉ (r2 c).set) (h3 : i ∉ (r3 c).set) (h4 : i ∉ (r4 c).set)
    (h5 : i ∉ (r5 c).set) (h6 : i ∉ (r6 c).set) (h7 : i ∉ (r7 c).set) (h8 : i ∉ (r8 c).set) (h9 : i ∉ (r9 c).set) (h10 : i ∉ (r10 c).set)
    (h11 : i ∉ (r11 c).set) : False := by
  replace h1 := mt (mem_block (off1_eq c) rfl).mpr h1
  replace h2 := mt (mem_block (off2_eq c) rfl).mpr h2
  replace h3 := mt (mem_block (off3_eq c) rfl).mpr h3
  replace h4 := mt (mem_block (off4_eq c) rfl).mpr h4
  replace h5 := mt (mem_block (off5_eq c) rfl).mpr h5
  replace h6 := mt (mem_block (off6_eq c) rfl).mpr h6
  replace h7 := mt (mem_block (off7_eq c) rfl).mpr h7
  replace h8 := mt (mem_block (off8_eq c) rfl).mpr h8
  replace h9 := mt (mem_block (off9_eq c) rfl).mpr h9
  replace h10 := mt (mem_block (off10_eq c) rfl).mpr h10
  replace h11 := mt (mem_block (off11_eq c) rfl).mpr h11
  have hi : (i 0).val < 4096 := (i 0).isLt
  have hc : c.val < 4 := c.isLt
  have hn : (nxt c).val = (c.val + 1) % 4 := rfl
  have hp : (prv c).val = (c.val + 3) % 4 := rfl
  have hnn : (nxt (nxt c)).val = ((c.val + 1) % 4 + 1) % 4 := rfl
  rw [hn] at h3 h5 h11; rw [hp] at h2 h4 h10; rw [hnn] at h6 h7 h8 h9
  omega

theorem outC_indep (c : Dev nD) (f f' : Vec F S4096x512 .bf16) : outC m c f = outC m c f' := by
  funext i
  unfold outC
  exact put_same fun h11 => put_same fun h10 => put_same fun h9 => put_same fun h8 => put_same fun h7 => put_same fun h6 => put_same fun h5 =>
    put_same fun h4 => put_same fun h3 => put_same fun h2 => put_same fun h1 => (blocks_cover c i h1 h2 h3 h4 h5 h6 h7 h8 h9 h10 h11).elim

end Cert.RingProof
-- ==== Proof.Cover.lean ====
/-
The kernel's buffers whole against the quarters its transfers move: what the launch deals, opened for the body, and
what the body ends with, closed again.
-/
module

public import proofs.«01_k».proof.Proof.Out

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The quarters cover their buffers and do not overlap -/

theorem quarter_at (l : Fin 3) (k : Fin 4) : ∃ j : Fin 12, lay j = l.val ∧ row j = 256 * k.val := by revert l k; decide
theorem quarter_apart (j j' : Fin 12) (h : j ≠ j') (hl : lay j = lay j') : row j + 256 ≤ row j' ∨ row j' + 256 ≤ row j := by
  revert j j'; decide

theorem c_cover : (Finset.univ : Finset (Fin 12)).biUnion (fun j => (cq j).view.set) = (Finset.univ : Finset S3x1024x4096.Idx) := by
  ext i
  simp only [Finset.mem_biUnion, Finset.mem_univ, true_and, iff_true]
  have h1 : (i 1).val < 1024 := (i 1).isLt
  obtain ⟨j, hl, hr⟩ := quarter_at (i 0) ⟨(i 1).val / 256, by omega⟩
  refine ⟨j, mem_cq.mpr ⟨hl.symm, ?_, ?_⟩⟩ <;> rw [hr] <;> show _ <;> simp only <;> omega
theorem c_disj (j j' : Fin 12) (h : j ≠ j') : Disjoint (cq j).view.set (cq j').view.set := by
  rw [Finset.disjoint_left]
  intro i hi hi'
  rw [mem_cq] at hi hi'
  rcases quarter_apart j j' h (hi.1.symm.trans hi'.1) with h' | h' <;> omega
theorem s_disj : Disjoint (sq 0).view.set (sq 1).view.set := by
  rw [Finset.disjoint_left]
  intro i hi hi'
  rw [mem_sq] at hi hi'
  exact absurd (hi.symm.trans hi') (by decide)
theorem s_cover : (sq 0).view.set ∪ (sq 1).view.set = (Finset.univ : Finset S2x256x4096.Idx) := by
  ext i
  have h0 : (i 0).val < 2 := (i 0).isLt
  refine ⟨fun _ => Finset.mem_univ _, fun _ => Finset.mem_union.mpr ?_⟩
  rcases Nat.lt_or_ge (i 0).val 1 with h | h
  · exact Or.inl (mem_sq.mpr (Nat.lt_one_iff.mp h))
  · exact Or.inr (mem_sq.mpr (Nat.le_antisymm (Nat.lt_succ_iff.mp h0) h))

/-! ## The gather buffer -/

theorem c_whole (c : Dev nD) (f : Vec F S3x1024x4096 .bf16) :
    (gM.view.loc (c : Thread nD τ) ↦{fullShare} f : sProp 𝕄)
      = bigSep Finset.univ fun j : Fin 12 => (cq j).view.loc (c : Thread nD τ) ↦[(cq j).view.set]{fullShare} f := by
  have h := pointsTo_biUnion (Ix := Unit) (Name := ℕ) (U := UU) (Lvl := ℕ) (ℓ := gM.view.loc (c : Thread nD τ)) (q := fullShare) (f := f) Finset.univ
    (fun j : Fin 12 => (cq j).view.set) (fun j _ j' _ h => c_disj j j' h)
  rw [c_cover] at h
  exact h
theorem gather_open (c : Dev nD) :
    (iprop(∃ f : Buf (Elt F) ((c : Thread nD τ).loc cc0_scratch0), ((c : Thread nD τ).loc cc0_scratch0) ↦{fullShare} f) : sProp 𝕄) ⊢ iprop(mineL c ∗ mineR c) := by
  iintro ⟨%f, H⟩
  ihave H := ((Entails.of_eq (c_whole c f)).trans (bigSep_mono (Ψ := fun j : Fin 12 => cAny c j) fun j _ => show _ ⊢ cAny c j from by
    unfold cAny; iintro H; iexists f; iexact H)) $$ H
  ihave H := (Entails.of_eq (twelve fun j : Fin 12 => (cAny c j : sProp 𝕄))) $$ H
  icases H with ⟨H0, H1, H2, H3, H4, H5, H6, H7, H8, H9, H10, H11⟩
  unfold mineL mineR
  isplitl [H0 H1 H2 H3 H8 H9]
  · isplitl [H0]; · iexact H0
    isplitl [H1]; · iexact H1
    isplitl [H2]; · iexact H2
    isplitl [H3]; · iexact H3
    isplitl [H8]; · iexact H8
    iexact H9
  isplitl [H4]; · iexact H4
  isplitl [H5]; · iexact H5
  isplitl [H6]; · iexact H6
  isplitl [H7]; · iexact H7
  isplitl [H10]; · iexact H10
  iexact H11
theorem gather_shut (c : Dev nD) : (bigSep Finset.univ fun j : Fin 12 => cPts m c fullShare j)
    ⊢ (iprop(∃ f : Buf (Elt F) ((c : Thread nD τ).loc cc0_scratch0), ((c : Thread nD τ).loc cc0_scratch0) ↦{fullShare} f) : sProp 𝕄) := by
  iintro H
  iexists (commF m c)
  iapply (Entails.of_eq (c_whole c (commF m c)).symm)
  unfold cPts
  iexact H

/-! ## The cast rows -/

theorem rows_whole (c : Dev nD) (f : Vec F S1024x4096 .bf16) :
    (bM.view.loc (c : Thread nD τ) ↦{fullShare} f : sProp 𝕄)
      = bigSep Finset.univ fun q : Fin 4 => (xq q).view.loc (c : Thread nD τ) ↦[(xq q).view.set]{fullShare} f := by
  have h := pointsTo_biUnion (Ix := Unit) (Name := ℕ) (U := UU) (Lvl := ℕ) (ℓ := bM.view.loc (c : Thread nD τ)) (q := fullShare) (f := f) Finset.univ
    (fun q : Fin 4 => (xq q).view.set) (fun q _ q' _ h => x_disj q q' h)
  rw [x_cover] at h
  exact h
theorem rows_open (c : Dev nD) :
    (iprop(∃ f : Buf (Elt F) ((c : Thread nD τ).loc cc0_scratch1), ((c : Thread nD τ).loc cc0_scratch1) ↦{fullShare} f) : sProp 𝕄)
      ⊢ bigSep Finset.univ fun q : Fin 4 => xAny c q := by
  iintro ⟨%f, H⟩
  iapply ((Entails.of_eq (rows_whole c f)).trans (bigSep_mono (Ψ := fun q : Fin 4 => xAny c q) fun q _ => show _ ⊢ xAny c q from by
    unfold xAny; iintro H; iexists f; iexact H))
  iexact H
/-- What the product and the two transfers of a quarter of the rows each held, put together. -/
theorem row_join (c : Dev nD) (q : Fin 4) (j j' : Fin 12) (hj : sendPay m c j = xPts m c fullShare.left q) (hj' : sendPay m c j' = xPts m c fullShare.right.left q) :
    iprop(sendPay m c j ∗ sendPay m c j' ∗ xPts m c fullShare.right.right q) ⊢ xPts m c fullShare q := by
  rw [hj, hj']; exact (x_split m c q).2
theorem rows_shut (c : Dev nD) :
    iprop(xWhole m c ∗ sendPay m c 0 ∗ sendPay m c 1 ∗ sendPay m c 2 ∗ sendPay m c 3 ∗ sendPay m c 4 ∗ sendPay m c 5 ∗ sendPay m c 6 ∗ sendPay m c 7)
    ⊢ (iprop(∃ f : Buf (Elt F) ((c : Thread nD τ).loc cc0_scratch1), ((c : Thread nD τ).loc cc0_scratch1) ↦{fullShare} f) : sProp 𝕄) := by
  rw [xWhole_eq]
  iintro ⟨⟨W0, W1, W2, W3⟩, A0, A1, A2, A3, B0, B1, B2, B3⟩
  iexists (xbF m c)
  iapply (Entails.of_eq ((rows_whole c (xbF m c)).trans (four fun q : Fin 4 => (xPts m c fullShare q : sProp 𝕄))).symm)
  isplitl [W0 A0 B0]
  · iapply (row_join m c 0 0 4 rfl rfl)
    isplitl [A0]; · iexact A0
    isplitl [B0] <;> iassumption
  isplitl [W1 A1 B1]
  · iapply (row_join m c 1 1 5 rfl rfl)
    isplitl [A1]; · iexact A1
    isplitl [B1] <;> iassumption
  isplitl [W2 A2 B2]
  · iapply (row_join m c 2 2 6 rfl rfl)
    isplitl [A2]; · iexact A2
    isplitl [B2] <;> iassumption
  iapply (row_join m c 3 3 7 rfl rfl)
  isplitl [A3]; · iexact A3
  isplitl [B3] <;> iassumption

/-! ## The slots -/

theorem slots_open (c : Dev nD) :
    (iprop(∃ f : Buf (Elt F) ((c : Thread nD τ).loc cc0_scratch2), ((c : Thread nD τ).loc cc0_scratch2) ↦{fullShare} f) : sProp 𝕄)
      ⊢ iprop(sAny c 0 ∗ sAny c 1) := by
  iintro ⟨%f, H⟩
  ihave H := (show (lM.view.loc (c : Thread nD τ) ↦{fullShare} f : sProp 𝕄) ⊢ iprop((lM.view.loc (c : Thread nD τ) ↦[(sq 0).view.set]{fullShare} f) ∗ (lM.view.loc (c : Thread nD τ) ↦[(sq 1).view.set]{fullShare} f)) from by
    rw [← s_cover]; exact (pointsTo_union s_disj).1) $$ H
  icases H with ⟨H0, H1⟩
  unfold sAny
  isplitl [H0]
  · iexists f; iexact H0
  iexists f; iexact H1
theorem slots_shut (c : Dev nD) : iprop(sAny c 0 ∗ sAny c 1)
    ⊢ (iprop(∃ f : Buf (Elt F) ((c : Thread nD τ).loc cc0_scratch2), ((c : Thread nD τ).loc cc0_scratch2) ↦{fullShare} f) : sProp 𝕄) := by
  unfold sAny
  iintro ⟨⟨%f, H0⟩, ⟨%g, H1⟩⟩
  ihave H := (pointsTo_join (Ix := Unit) (Name := ℕ) (U := UU) (Lvl := ℕ) (ℓ := lM.view.loc (c : Thread nD τ)) (q := fullShare) (f := f) (g := g) s_disj) $$ [H0 H1]
  · isplitl [H0]; · iexact H0
    iexact H1
  iexists ((sq 1).view.set.piecewise g f)
  iapply (Entails.of_eq (congrArg (fun S => (lM.view.loc (c : Thread nD τ) ↦[S]{fullShare} ((sq 1).view.set.piecewise g f) : sProp 𝕄)) s_cover))
  iexact H

/-! ## The arguments and the weight block -/

theorem args_eq (c : Dev nD) : ((c : Thread nD τ).loc main_arg0 ↦{fullShare} Xc m c : sProp 𝕄) = bigSep Finset.univ fun q : Fin 4 => aPts m c q := by
  have h := pointsTo_biUnion (Ix := Unit) (Name := ℕ) (U := UU) (Lvl := ℕ) (ℓ := xM.view.loc (c : Thread nD τ)) (q := fullShare) (f := Xc m c) Finset.univ
    (fun q : Fin 4 => (aq q).view.set) (fun q _ q' _ h => by rw [aq_set, aq_set, ← xq_set, ← xq_set]; exact x_disj q q' h)
  have e : (Finset.univ : Finset (Fin 4)).biUnion (fun q => (aq q).view.set) = (Finset.univ : Finset S1024x4096.Idx) :=
    (congrArg (Finset.univ : Finset (Fin 4)).biUnion (funext fun q => (aq_set q).trans (xq_set q).symm)).trans x_cover
  rw [e] at h
  exact h
theorem wPts_eq (c : Dev nD) : (wPts m c : sProp 𝕄) = ((c : Thread nD τ).loc main_arg1 ↦{fullShare} Wc m c) := by
  unfold wPts; rw [show wM.view.set = Finset.univ from View.set_whole _]
theorem wsAny_eq (c : Dev nD) : (wsAny c : sProp 𝕄) = iprop(∃ f : Buf (Elt F) ((c : Thread nD τ).loc cc0_scratch4), ((c : Thread nD τ).loc cc0_scratch4) ↦{fullShare} f) := by
  unfold wsAny; rw [show wsM.view.set = Finset.univ from View.set_whole _]
theorem wbAny_eq (c : Dev nD) : (wbAny c : sProp 𝕄) = iprop(∃ f : Buf (Elt F) ((c : Thread nD τ).loc cc0_scratch3), ((c : Thread nD τ).loc cc0_scratch3) ↦{fullShare} f) := by
  unfold wbAny; rw [show wbM.view.set = Finset.univ from View.set_whole _]
theorem oPts_eq (c : Dev nD) (f : Vec F S4096x512 .bf16) : (oPts c f : sProp 𝕄) = ((c : Thread nD τ).loc cc0_stg0_0 ↦{fullShare} f) := by
  unfold oPts; rw [show oM.view.set = Finset.univ from View.set_whole _]

/-! ## All the scratch at once -/

theorem scratch_open (c : Dev nD) : (Pipeline.scopedRest (Ix := Unit) (Name := ℕ) (U := UU) (Lvl := ℕ) (Val := Elt F) spec0 c : sProp 𝕄)
    ⊢ iprop(mineL c ∗ mineR c ∗ (bigSep Finset.univ fun q : Fin 4 => xAny c q) ∗ sAny c 0 ∗ sAny c 1 ∗ wbAny c ∗ wsAny c) := by
  rw [scopedRest0_eq, wsAny_eq, wbAny_eq]
  iintro ⟨H0, H1, H2, H3, H4⟩
  ihave H0 := (gather_open c) $$ H0
  ihave H1 := (rows_open c) $$ H1
  ihave H2 := (slots_open c) $$ H2
  icases H0 with ⟨H0, H0'⟩
  icases H2 with ⟨H2, H2'⟩
  isplitl [H0]; · iexact H0
  isplitl [H0']; · iexact H0'
  isplitl [H1]; · iexact H1
  isplitl [H2]; · iexact H2
  isplitl [H2']; · iexact H2'
  isplitl [H3] <;> iassumption
theorem scratch_shut (c : Dev nD) :
    iprop((bigSep Finset.univ fun j : Fin 12 => cPts m c fullShare j)
        ∗ (xWhole m c ∗ sendPay m c 0 ∗ sendPay m c 1 ∗ sendPay m c 2 ∗ sendPay m c 3 ∗ sendPay m c 4 ∗ sendPay m c 5 ∗ sendPay m c 6 ∗ sendPay m c 7)
        ∗ sAny c 0 ∗ sAny c 1 ∗ wbPts m c ∗ wsPts m c)
      ⊢ (Pipeline.scopedRest (Ix := Unit) (Name := ℕ) (U := UU) (Lvl := ℕ) (Val := Elt F) spec0 c : sProp 𝕄) := by
  rw [scopedRest0_eq, ← wsAny_eq, ← wbAny_eq]
  iintro ⟨H0, H1, H2, H2', H3, H4⟩
  ihave H0 := (gather_shut m c) $$ H0
  ihave H1 := (rows_shut m c) $$ H1
  ihave H2 := (slots_shut c) $$ [H2 H2']
  · isplitl [H2] <;> iassumption
  isplitl [H0]; · iexact H0
  isplitl [H1]; · iexact H1
  isplitl [H2]; · iexact H2
  unfold wbAny wsAny wbPts wsPts
  isplitl [H3]
  · iexists (wbF m c); iexact H3
  iexists (Wc m c); iexact H4

end Cert.RingProof

end
-- ==== Proof.Ghost.lean ====
/-
The launch's share of the protocol: every device's cells and tokens minted, the cells' invariants made known to all
devices, the tokens dealt to the devices that pay them, and the credits each device starts from.
-/
module

public import proofs.«01_k».proof.Proof.Cover
public import Idealize.ShloMosaic.Lib.Pipeline.BigSepL

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells listed -/

theorem three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl
/-- The cells of a device: the barrier, the two slots, the weight block, the twelve sends and the twelve receives. -/
theorem cells28 (Φ : Fin 28 → sProp 𝕄) : bigSep Finset.univ Φ
    = iprop(Φ 0 ∗ Φ (slS 0) ∗ Φ (slS 1) ∗ Φ wlS ∗ (bigSep Finset.univ fun j : Fin 12 => Φ (sS j)) ∗ (bigSep Finset.univ fun j : Fin 12 => Φ (rS j))) := by
  rw [bigSep_univ_eq_bigSepL ([0] ++ ([1] ++ ([2] ++ ([3] ++ ([4, 5, 6, 7, 8, 9, 10, 11, 12, 13, 14, 15] ++ [16, 17, 18, 19, 20, 21, 22, 23, 24, 25, 26, 27]))))) (by decide) (by decide),
    bigSepL_append, bigSepL_append, bigSepL_append, bigSepL_append, bigSepL_append, twelve, twelve]
  simp only [bigSepL_cons_cons, bigSepL_singleton]
  rfl

theorem csem_inj {k k' : Fin 28} (h : csem k = csem k') : k = k' := by
  unfold csem at h
  split at h <;> split at h
  · next h1 h2 => exact h1.trans h2.symm
  · cases h
  · cases h
  · injection h
theorem kcell_inj : Function.Injective (kcell : Dev nD × Fin 28 → GSem nD τ sig) := by
  rintro ⟨c, k⟩ ⟨c', k'⟩ h
  have h1 : c = c' := congrArg (fun g : GSem nD τ sig => g.1.1) h
  subst h1
  exact congrArg (Prod.mk c) (csem_inj (congrArg Prod.snd h : csem k = csem k'))
def ringCells : Finset (GSem nD τ sig) := Finset.univ.map ⟨kcell, kcell_inj⟩

/-! ## The tokens -/

/-- A device's duties: one in round 0 of every cell, the barrier's second, and the slots' in round 1. -/
abbrev TokIx : Type := Fin 28 ⊕ Fin 3
def tokAt (c : Dev nD) : TokIx → GSem nD τ sig × ℕ × Bool
  | .inl k => (kcell (c, k), 0, false)
  | .inr 0 => (barCell c, 0, true)
  | .inr 1 => (dCell c (slS 0), 1, false)
  | .inr 2 => (dCell c (slS 1), 1, false)
def tokOf (cx : Dev nD × TokIx) : GSem nD τ sig × ℕ × Bool := tokAt cx.1 cx.2
theorem tok_extra (x y : Fin 3) (h : (tokAt 0 (.inr x)).1.2 = (tokAt 0 (.inr y)).1.2) : x = y := by
  fin_cases x <;> fin_cases y <;> first | rfl | exact absurd h (by decide)
theorem tok_apart (c : Dev nD) (k : Fin 28) (x : Fin 3) : tokAt c (.inl k) ≠ tokAt c (.inr x) := by
  intro h
  fin_cases x
  · exact absurd (congrArg (fun p => p.2.2) h) Bool.false_ne_true
  · exact absurd (congrArg (fun p => p.2.1) h) Nat.zero_ne_one
  · exact absurd (congrArg (fun p => p.2.1) h) Nat.zero_ne_one
theorem tok_dev (c : Dev nD) (x : TokIx) : (tokAt c x).1.1.1 = c := by
  rcases x with k | x
  · rfl
  · fin_cases x <;> rfl
theorem tok_sem (c : Dev nD) (x : Fin 3) : (tokAt c (.inr x)).1.2 = (tokAt 0 (.inr x)).1.2 := by fin_cases x <;> rfl
theorem tokOf_inj : Function.Injective (tokOf : Dev nD × TokIx → GSem nD τ sig × ℕ × Bool) := by
  rintro ⟨c, x⟩ ⟨c', x'⟩ h
  have h1 : c = c' := by
    have e := congrArg (fun p : GSem nD τ sig × ℕ × Bool => p.1.1.1) h
    exact (tok_dev c x).symm.trans (e.trans (tok_dev c' x'))
  subst h1
  rcases x with k | x <;> rcases x' with k' | x'
  · have e : csem k = csem k' := congrArg (fun p : GSem nD τ sig × ℕ × Bool => p.1.2) h
    rw [csem_inj e]
  · exact absurd h (tok_apart c k x')
  · exact absurd h.symm (tok_apart c k' x)
  · have e : (tokAt c (.inr x)).1.2 = (tokAt c (.inr x')).1.2 := congrArg (fun p : GSem nD τ sig × ℕ × Bool => p.1.2) h
    rw [tok_sem, tok_sem c x'] at e
    rw [tok_extra x x' e]
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

abbrev Tok (x : GSem nD τ sig × ℕ × Bool) : sProp 𝕄 := dutyTok ER x.1 x.2.1 x.2.2
/-- The duty tokens of device `c`'s own cells, -/
def toks (c : Dev nD) : sProp 𝕄 := bigSep Finset.univ fun x : TokIx => Tok (tokAt c x)
/-- and of the duties device `c` pays. -/
def payToks (c : Dev nD) : sProp 𝕄 :=
  iprop(dutyTok ER (barCell (prv c)) 0 true ∗ dutyTok ER (barCell (nxt c)) 0 false
    ∗ SlotTok c 0 0 ∗ SlotTok c 0 1 ∗ SlotTok c 1 0 ∗ SlotTok c 1 1 ∗ dutyTok ER (dCell c wlS) 0 false
    ∗ (bigSep Finset.univ fun j : Fin 12 => dutyTok ER (dCell c (sS j)) 0 false)
    ∗ (bigSep Finset.univ fun j : Fin 12 => dutyTok ER (dCell (tgt c j) (rS j)) 0 false))

theorem kcell_dma (c : Dev nD) (k : Fin 28) (hk : k ≠ 0) : kcell (c, k) = dCell c k := congrArg (Prod.mk _) (csem_dma k hk)

theorem toks_eq (c : Dev nD) : (toks c : sProp 𝕄)
    = iprop((dutyTok ER (barCell c) 0 false ∗ SlotTok c 0 0 ∗ SlotTok c 1 0 ∗ dutyTok ER (dCell c wlS) 0 false
        ∗ (bigSep Finset.univ fun j : Fin 12 => dutyTok ER (dCell c (sS j)) 0 false)
        ∗ (bigSep Finset.univ fun j : Fin 12 => dutyTok ER (dCell c (rS j)) 0 false))
      ∗ (dutyTok ER (barCell c) 0 true ∗ SlotTok c 0 1 ∗ SlotTok c 1 1)) := by
  unfold toks
  rw [BI.bigSep_univ_sum, cells28, three]
  unfold SlotTok
  show iprop((dutyTok ER (kcell (c, 0)) 0 false ∗ dutyTok ER (kcell (c, slS 0)) 0 false ∗ dutyTok ER (kcell (c, slS 1)) 0 false
    ∗ dutyTok ER (kcell (c, wlS)) 0 false ∗ (bigSep Finset.univ fun j : Fin 12 => dutyTok ER (kcell (c, sS j)) 0 false)
    ∗ (bigSep Finset.univ fun j : Fin 12 => dutyTok ER (kcell (c, rS j)) 0 false)) ∗ _) = _
  rw [kcell_dma c (slS 0) (slS_ne 0), kcell_dma c (slS 1) (slS_ne 1), kcell_dma c wlS wlS_ne]
  simp only [fun j => kcell_dma c (sS j) (sS_ne j), fun j => kcell_dma c (rS j) (rS_ne j)]
  rfl

/-- Every receive's token goes to the device that sends to it. -/
def toSender : Dev nD × Fin 12 ≃ Dev nD × Fin 12 :=
  ⟨fun x => (tgt x.1 x.2, x.2), fun x => (src x.1 x.2, x.2), fun x => Prod.ext (src_tgt x.1 x.2) rfl, fun x => Prod.ext (tgt_src x.1 x.2) rfl⟩
theorem recv_around : (bigSep Finset.univ fun c : Dev nD => bigSep Finset.univ fun j : Fin 12 => (dutyTok ER (dCell c (rS j)) 0 false : sProp 𝕄))
    = bigSep Finset.univ fun c : Dev nD => bigSep Finset.univ fun j : Fin 12 => dutyTok ER (dCell (tgt c j) (rS j)) 0 false := by
  rw [← bigSep_univ_prod (fun x : Dev nD × Fin 12 => (dutyTok ER (dCell x.1 (rS x.2)) 0 false : sProp 𝕄)),
    bigSep_univ_equiv toSender, bigSep_univ_prod]
  rfl
theorem toks_around : (bigSep Finset.univ fun c : Dev nD => (toks c : sProp 𝕄)) ⊢ bigSep Finset.univ fun c : Dev nD => payToks c := by
  simp only [toks_eq]
  unfold payToks
  simp only [bigSep_sep']
  rw [recv_around, bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2, H3, H4, H5, H6⟩, H7, H8, H9⟩
  isplitl [H7]; · iexact H7
  isplitl [H1]; · iexact H1
  isplitl [H2]; · iexact H2
  isplitl [H8]; · iexact H8
  isplitl [H3]; · iexact H3
  isplitl [H9]; · iexact H9
  isplitl [H4]; · iexact H4
  isplitl [H5]; · iexact H5
  iexact H6

/-! ## The global step -/

/-- What the launch deals device `c`, -/
def G (c : Dev nD) : sProp 𝕄 :=
  iprop((bigSep Finset.univ fun k : Fin 28 => roundState ER (Rd m) (kcell (c, k)) 0) ∗ (bigSep Finset.univ fun k : Fin 28 => reached ER (kcell (c, k)) 0)
    ∗ (bigSep Finset.univ fun k : Fin 28 => atPos ER (kcell (c, k)) 0 ∅ 0) ∗ toks c)
/-- the cells' records, -/
def Recs (K : Dev nD × Fin 28 → ℕ) : sProp 𝕄 :=
  bigSep Finset.univ fun ck : Dev nD × Fin 28 => iprop(cellInv ER (Rd m) (K ck) (kcell ck) ∗ reached ER (kcell ck) 0)
instance Recs_persistent (K : Dev nD × Fin 28 → ℕ) : BI.Persistent (Recs m K) := by unfold Recs; infer_instance
/-- what is the device's own, -/
def Own (c : Dev nD) : sProp 𝕄 :=
  iprop((atPos ER (barCell c) 0 ∅ 0 ∗ dutyTok ER (barCell (prv c)) 0 true ∗ dutyTok ER (barCell (nxt c)) 0 false)
    ∗ (bigSep Finset.univ fun j : Fin 12 => SendTok c j) ∗ (bigSep Finset.univ fun j : Fin 12 => atPos ER (dCell c (rS j)) 0 ∅ 0)
    ∗ WTok c ∗ (SlotTok c 0 0 ∗ SlotTok c 0 1 ∗ SlotTok c 1 0 ∗ SlotTok c 1 1)
    ∗ atPos ER (dCell c (slS 0)) 0 ∅ 0 ∗ atPos ER (dCell c (slS 1)) 0 ∅ 0)
/-- and what the global step leaves it. -/
def G' (c : Dev nD) : sProp 𝕄 := iprop(∃ K, Recs m K ∗ Own c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 28 => Φ (kcell (c, k)) := by
    unfold ringCells; rw [bigSep_map, bigSep_univ_prod]; rfl
  have hT : bigSep ringToks (fun x => (Tok x : sProp 𝕄)) = bigSep Finset.univ fun c : Dev nD => toks c := by
    unfold ringToks toks; rw [bigSep_map, bigSep_univ_prod]; rfl
  iintro HX
  imod (Rounds.fund ER (Rd m) ringCells ringToks) $$ HX with ⟨Hst, Hr, Hat, Htok⟩
  imodintro
  unfold G; simp only [bigSep_sep']
  isplitl [Hst]; · iapply (Entails.of_eq (hX fun g => roundState ER (Rd m) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

/-- The kernel's own semaphores: the two slots', the weight block's, the sends' and the receives'. -/
def osem : Fin 3 ⊕ (Fin 12 ⊕ Fin 12) → SemLoc sig
  | .inl 0 => .dma (slS 0)
  | .inl 1 => .dma (slS 1)
  | .inl 2 => .dma wlS
  | .inr (.inl j) => .dma (sS j)
  | .inr (.inr j) => .dma (rS j)

theorem ownSems_eq (c : Dev nD) : (Pipeline.ownSems0 (Ix := Unit) (Name := ℕ) (U := UU) (Lvl := ℕ) (Val := Elt F) (τ := τ) osem c : sProp 𝕄)
    = iprop((Zr c (slS 0) ∗ Zr c (slS 1) ∗ Zr c wlS) ∗ (bigSep Finset.univ fun j : Fin 12 => Zr c (sS j)) ∗ (bigSep Finset.univ fun j : Fin 12 => Zr c (rS j))) := by
  unfold Pipeline.ownSems0
  rw [BI.bigSep_univ_sum, BI.bigSep_univ_sum, three]
  rfl
theorem barSem_eq (c : Dev nD) : (unscopedSems0 c : sProp 𝕄) = semVal (barCell c) 0 := by
  unfold unscopedSems0; rw [bigSep_eq_bigSepL_of_eq [SemLoc.reg barS] (by decide) (by decide)]; rfl
theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : Fin 28 => semVal (kcell (c, k)) 0 : sProp 𝕄) := by
  rw [ownSems_eq, barSem_eq, cells28, kcell_dma c (slS 0) (slS_ne 0), kcell_dma c (slS 1) (slS_ne 1), kcell_dma c wlS wlS_ne]
  simp only [fun j => kcell_dma c (sS j) (sS_ne j), fun j => kcell_dma c (rS j) (rS_ne j)]
  unfold Zr
  iintro ⟨⟨⟨H0, H1, H2⟩, HS, HV⟩, HB⟩
  isplitl [HB]; · iexact HB
  isplitl [H0]; · iexact H0
  isplitl [H1]; · iexact H1
  isplitl [H2]; · iexact H2
  isplitl [HS]; · iexact HS
  iexact HV

/-- One cell's invariant from its counter at zero. -/
theorem cell_alloc (g : GSem nD τ sig) : iprop((semVal g 0 ∗ roundState ER (Rd m) g 0) ∗ reached ER g 0)
    ⊢ (|={Set.univ}=> ∃ κ : ℕ, cellInv ER (Rd m) κ g ∗ reached ER g 0 : sProp 𝕄) := by
  iintro ⟨H, Hr⟩
  imod ((Rounds.body_intro ER (Rd m) g).trans inv_alloc) $$ H with ⟨%κ, Hi⟩
  imodintro
  iexists κ
  isplitl [Hi]; · iexact Hi
  iexact Hr

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 28 => iprop(∃ κ : ℕ, cellInv ER (Rd m) κ (kcell (c, k)) ∗ reached ER (kcell (c, k)) 0))
          ∗ (bigSep Finset.univ fun k : Fin 28 => atPos ER (kcell (c, k)) 0 ∅ 0) ∗ toks c) := by
  unfold G
  iintro ⟨Hos, Hus, Hst, Hr, Hat, Htok⟩
  ihave Hv := (sems_all (F := F) c) $$ [Hos Hus]
  · isplitl [Hos] <;> iassumption
  imod (show iprop(((bigSep Finset.univ fun k : Fin 28 => semVal (kcell (c, k)) 0) ∗ bigSep Finset.univ fun k : Fin 28 => roundState ER (Rd m) (kcell (c, k)) 0)
        ∗ bigSep Finset.univ fun k : Fin 28 => reached ER (kcell (c, k)) 0)
      ⊢ (|={Set.univ}=> bigSep Finset.univ fun k : Fin 28 => iprop(∃ κ : ℕ, cellInv ER (Rd m) κ (kcell (c, k)) ∗ reached ER (kcell (c, k)) 0) : sProp 𝕄) from by
        rw [← bigSep_sep', ← bigSep_sep']
        exact (bigSep_mono fun k _ => cell_alloc m (kcell (c, k))).trans (bigSep_fupd _ _)) $$ [Hv Hst Hr] with Hinv
  · isplitl [Hv Hst]
    · isplitl [Hv] <;> iassumption
    iexact Hr
  imodintro
  isplitl [Hinv]; · iexact Hinv
  isplitl [Hat]; · iexact Hat
  iexact Htok

theorem own_intro (c : Dev nD) : iprop((bigSep Finset.univ fun k : Fin 28 => atPos ER (kcell (c, k)) 0 ∅ 0) ∗ payToks c) ⊢ (Own c : sProp 𝕄) := by
  rw [cells28, kcell_dma c (slS 0) (slS_ne 0), kcell_dma c (slS 1) (slS_ne 1), kcell_dma c wlS wlS_ne]
  simp only [fun j => kcell_dma c (sS j) (sS_ne j), fun j => kcell_dma c (rS j) (rS_ne j)]
  unfold payToks Own WTok SendTok
  simp only [bigSep_sep']
  iintro ⟨⟨HaB, Ha0, Ha1, HaW, HaS, HaV⟩, HtP, HtN, Ht00, Ht01, Ht10, Ht11, HtW, HtS, HtV⟩
  isplitl [HaB HtP HtN]
  · isplitl [HaB]; · iexact HaB
    isplitl [HtP] <;> iassumption
  isplitl [HaS HtS HtV]
  · isplitl [HtS]; · iexact HtS
    isplitl [HtV] <;> iassumption
  isplitl [HaV]; · iexact HaV
  isplitl [HaW HtW]
  · isplitl [HtW] <;> iassumption
  isplitl [Ht00 Ht01 Ht10 Ht11]
  · isplitl [Ht00]; · iexact Ht00
    isplitl [Ht01]; · iexact Ht01
    isplitl [Ht10] <;> iassumption
  isplitl [Ha0] <;> iassumption

/-- What all know is known by each. -/
theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

theorem regroup :
    (bigSep Finset.univ fun c : Dev nD => iprop((bigSep Finset.univ fun k : Fin 28 => iprop(∃ κ : ℕ, cellInv ER (Rd m) κ (kcell (c, k)) ∗ reached ER (kcell (c, k)) 0))
          ∗ (bigSep Finset.univ fun k : Fin 28 => atPos ER (kcell (c, k)) 0 ∅ 0) ∗ toks c) : sProp 𝕄)
      ⊢ bigSep Finset.univ (G' m) := by
  rw [bigSep_sep', bigSep_sep', ← bigSep_univ_prod (fun ck : Dev nD × Fin 28 => iprop(∃ κ : ℕ, cellInv ER (Rd m) κ (kcell ck) ∗ reached ER (kcell ck) 0))]
  iintro ⟨HI, Hat, Htok⟩
  ihave HK := (bigSep_exists_pi Finset.univ (fun (ck : Dev nD × Fin 28) (κ : ℕ) => (iprop(cellInv ER (Rd m) κ (kcell ck) ∗ reached ER (kcell ck) 0) : sProp 𝕄))) $$ HI
  icases HK with ⟨%K, #HI⟩
  ihave Htk := (toks_around (F := F)) $$ Htok
  iapply (deal (R := Recs m K) (Φ := fun c : Dev nD => (Own c : sProp 𝕄)) fun c _ => show _ ⊢ G' m c from by
    unfold G'; iintro H; iexists K; iexact H)
  isplitr
  · unfold Recs; iexact HI
  iapply (show (bigSep Finset.univ fun c : Dev nD => iprop((bigSep Finset.univ fun k : Fin 28 => atPos ER (kcell (c, k)) 0 ∅ 0) ∗ payToks c) : sProp 𝕄)
    ⊢ bigSep Finset.univ fun c : Dev nD => Own c from bigSep_mono fun c _ => own_intro c)
  iapply (Entails.of_eq (bigSep_sep' Finset.univ (fun c : Dev nD => (bigSep Finset.univ fun k : Fin 28 => atPos ER (kcell (c, k)) 0 ∅ 0 : sProp 𝕄)) payToks).symm)
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_inj {a b : Dev nD} (h : barCell a = barCell b) : a = b := congrArg (fun g : GSem nD τ sig => g.1.1) h
theorem recv_inj {a b : Dev nD} {i j : Fin 12} (h : dCell a (rS i) = dCell b (rS j)) : a = b ∧ i = j := by
  refine ⟨congrArg (fun g : GSem nD τ sig => g.1.1) h, ?_⟩
  have e : SemLoc.dma (rS i) = SemLoc.dma (rS j) := congrArg Prod.snd h
  injection e with e
  have e' := congrArg Fin.val e
  unfold rS at e'
  apply Fin.ext
  simp only at e'
  omega
theorem recv_ne_bar (a b : Dev nD) (j : Fin 12) : dCell a (rS j) ≠ barCell b := fun h => by cases congrArg Prod.snd h

theorem Osum_bar (d c : Dev nD) : Osum d Finset.univ (barCell c) () = 0 := by
  by_contra hn
  obtain ⟨j, _, hj⟩ := Osum_pos (Nat.pos_of_ne_zero hn)
  exact recv_ne_bar _ _ _ hj.symm
theorem Osum_recv (d c : Dev nD) (j : Fin 12) : Osum d Finset.univ (dCell c (rS j)) () = if d = src c j then NB else 0 := by
  unfold Osum
  rw [Finset.sum_apply, Finsupp.finset_sum_apply, Finset.sum_eq_single j]
  · rw [tallyAt_apply]
    by_cases h : d = src c j
    · subst h; rw [tgt_src, if_pos ⟨rfl, rfl⟩, if_pos rfl]
    · rw [if_neg (fun h' => h (by rw [(recv_inj h'.1).1, src_tgt])), if_neg h]
  · intro i _ hi
    rw [tallyAt_apply, if_neg (fun h' => hi (recv_inj h'.1).2.symm)]
  · intro h; exact absurd (Finset.mem_univ j) h

theorem owed_bar (d c : Dev nD) : O₀ d (barCell c) () = (if d = prv c then 1 else 0) + (if d = nxt c then 1 else 0) := by
  unfold O₀ O₁
  rw [Pi.add_apply, Finsupp.add_apply, Pi.add_apply, Finsupp.add_apply, Osum_bar, Nat.zero_add, tallyAt_apply, tallyAt_apply]
  congr 1
  · by_cases h : d = prv c
    · subst h; rw [nxt_prv, if_pos ⟨rfl, rfl⟩, if_pos rfl]
    · rw [if_neg (fun h' => h (by rw [bar_inj h'.1, prv_nxt])), if_neg h]
  · by_cases h : d = nxt c
    · subst h; rw [prv_nxt, if_pos ⟨rfl, rfl⟩, if_pos rfl]
    · rw [if_neg (fun h' => h (by rw [bar_inj h'.1, nxt_prv])), if_neg h]
theorem owed_recv (d c : Dev nD) (j : Fin 12) : O₀ d (dCell c (rS j)) () = if d = src c j then NB else 0 := by
  unfold O₀ O₁
  rw [Pi.add_apply, Finsupp.add_apply, Pi.add_apply, Finsupp.add_apply, Osum_recv,
    tallyAt_ne_cell (recv_ne_bar _ _ _), tallyAt_ne_cell (recv_ne_bar _ _ _), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (c : Dev nD) (j : Fin 12) :
    tallyOn (dCell c (rS j)) (launchCredit (Pipeline.owing O₀) 0 (dCell c (rS j))) = (tallyAt (dCell c (rS j)) () NB : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (src c j) fun _ => NB,
    if_pos (Finset.mem_univ _)]

theorem rS_inj : Function.Injective (fun j : Fin 12 => (SemLoc.dma (rS j) : SemLoc sig)) := fun i j h =>
  (recv_inj (a := 0) (b := 0) (congrArg (Prod.mk _) h)).2
theorem creds (c : Dev nD) : (Pipeline.launchCred O₀ c : sProp 𝕄)
    ⊢ iprop(cred (tallyAt (barCell c) () 2) ∗ bigSep Finset.univ fun j : Fin 12 => cred (tallyAt (dCell c (rS j)) () NB)) := by
  unfold Pipeline.launchCred
  rw [bigSep_univ_at _ (SemLoc.reg barS), launch_bar]
  refine sep_mono_right ?_
  refine (BI.bigSep_subset (t := Finset.univ.map ⟨_, rS_inj⟩) fun x hx => ?_).trans ?_
  · obtain ⟨j, _, rfl⟩ := Finset.mem_map.mp hx
    exact Finset.mem_erase.mpr ⟨fun h => (by cases h), Finset.mem_univ _⟩
  · rw [bigSep_map]
    exact Entails.of_eq (bigSep_congr fun j _ => congrArg cred (launch_recv c j))

end Cert.RingProof

end
-- ==== Proof.Launch.lean ====
/-
The run of the whole program: each device's body from what the launch deals it to what it returns, and the final state
of the four devices together.
-/
module

public import proofs.«01_k».proof.Proof.Ghost
public import Idealize.ShloMosaic.Lib.Pipeline.CollectiveSegs

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- The output block each device ends with. -/
def outAt (c : Dev nD) : Vec F S4096x512 .bf16 := outC m c (m ((c : Thread nD τ).loc main_v1))

/-- The arguments' arrays of a device as launched. -/
def args (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1)))
/-- What a device brings to its body, -/
def start (c : Dev nD) : sProp 𝕄 :=
  iprop(G' m c ∗ levAts L lv ∗ (cred (tallyAt (barCell c) () 2) ∗ bigSep Finset.univ fun j : Fin 12 => cred (tallyAt (dCell c (rS j)) () NB)) ∗ args m c)
/-- with its scratch. -/
def Φ₀ (c : Dev nD) : sProp 𝕄 := iprop(start m c ∗ Pipeline.scopedRest spec0 c)
/-- Its cells closed. -/
def closed (c : Dev nD) : sProp 𝕄 :=
  iprop((Zr c (slS 0) ∗ Zr c (slS 1) ∗ Zr c wlS) ∗ (bigSep Finset.univ fun j : Fin 12 => Zr c (sS j)) ∗ (bigSep Finset.univ fun j : Fin 12 => Zr c (rS j)))
/-- What it ends with. -/
def Φ₁ (c : Dev nD) : sProp 𝕄 := iprop((semVal (barCell c) 0 ∗ args m c) ∗ closed c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (X : Vec F S4096x512 .bf16) : sProp 𝕄 :=
  iprop(∃ f : Buf (Elt F) (((c : Dev nD) : Thread nD τ).loc cc0_stg0_0), ⌜f = X⌝ ∗ (((c : Thread nD τ).loc cc0_stg0_0) ↦{fullShare} f))

/-! ## The body -/

theorem rec_intro (K : Dev nD × Fin 28 → ℕ) : iprop(Recs m K ∗ levAts L lv) ⊢ Rec m K := by
  unfold Rec Recs; exact BI.Entails.refl _

/-- What the launch deals a device is what its body starts from. -/
theorem body_in (K : Dev nD × Fin 28 → ℕ) (c : Dev nD) (f : Vec F S4096x512 .bf16) :
    iprop(Rec m K ∗ Own c ∗ (cred (tallyAt (barCell c) () 2) ∗ bigSep Finset.univ fun j : Fin 12 => cred (tallyAt (dCell c (rS j)) () NB)) ∗ args m c
        ∗ Pipeline.scopedRest spec0 c ∗ owesX c (O₀ c) ∗ (((c : Thread nD τ).loc cc0_stg0_0) ↦{fullShare} f))
      ⊢ BodyIn m c f := by
  unfold Own args BodyIn BarIn
  iintro ⟨#HR, ⟨⟨HaB, HtP, HtN⟩, HS, HV, HW, ⟨Ht00, Ht01, Ht10, Ht11⟩, Ha0, Ha1⟩, ⟨HcB, HcV⟩, ⟨Hx, Hw⟩, Hsc, HO, Ho⟩
  ihave Hsc := (scratch_open c) $$ Hsc
  icases Hsc with ⟨HmL, HmR, Hxs, Hs0, Hs1, Hwb, Hws⟩
  isplitl [HaB HtP HtN HcB]
  · isplitl [HcB]; · iexact HcB
    isplitl [HaB]; · iexact HaB
    isplitl [HtP] <;> iassumption
  isplitl [HmL]; · iexact HmL
  isplitl [HmR]; · iexact HmR
  isplitl [HO]; · iexact HO
  isplitl [Ho]; · iapply (Entails.of_eq (oPts_eq c f).symm); iexact Ho
  isplitl [HS]; · iexact HS
  isplitl [HV HcV]
  · unfold RecvRes
    iapply (Entails.of_eq (bigSep_sep' Finset.univ (fun j : Fin 12 => (cred (tallyAt (dCell c (rS j)) () NB) : sProp 𝕄)) (fun j => atPos ER (dCell c (rS j)) 0 ∅ 0)).symm)
    isplitl [HcV] <;> iassumption
  isplitl [Hw]; · iapply (Entails.of_eq (wPts_eq m c).symm); iexact Hw
  isplitl [Hws]; · iexact Hws
  isplitl [Hwb]; · iexact Hwb
  isplitl [HW]; · iexact HW
  isplitl [Hx]; · iapply (Entails.of_eq (args_eq m c)); iexact Hx
  isplitl [Hs0]; · iexact Hs0
  isplitl [Hs1]; · iexact Hs1
  isplitl [Ht00]; · iexact Ht00
  isplitl [Ht01]; · iexact Ht01
  isplitl [Ht10]; · iexact Ht10
  isplitl [Ht11]; · iexact Ht11
  unfold SlotAt
  isplitl [Ha0]
  · isplitl [Ha0]; · iexact Ha0
    ihave H := (Rec_dma m K c (slS 0) (slS_ne 0)) $$ HR
    icases H with ⟨-, H⟩; iexact H
  isplitl [Ha1]
  · isplitl [Ha1]; · iexact Ha1
    ihave H := (Rec_dma m K c (slS 1) (slS_ne 1)) $$ HR
    icases H with ⟨-, H⟩; iexact H
  iexact Hxs

/-- What the body ends with is what the device returns. -/
theorem body_out (c : Dev nD) (f : Vec F S4096x512 .bf16) :
    BodyEnd m c f ⊢ iprop(Φ₁ m c ∗ owesX c 0 ∗ (((c : Thread nD τ).loc cc0_stg0_0) ↦{fullShare} outAt m c)) := by
  unfold BodyEnd Φ₁ args closed
  iintro ⟨HzB, HzS, HzV, HzW, Hz0, Hz1, Hw, Hx, Hws, Hwb, Hs0, Hs1, Ho, HO, Hxs, Hcs⟩
  isplitr [HO Ho]
  · isplitl [HzB Hw Hx]
    · isplitl [HzB]; · iexact HzB
      isplitl [Hx]; · iapply (Entails.of_eq (args_eq m c).symm); iexact Hx
      iapply (Entails.of_eq (wPts_eq m c)); iexact Hw
    isplitl [HzS HzV HzW Hz0 Hz1]
    · isplitl [HzW Hz0 Hz1]
      · isplitl [Hz0]; · iexact Hz0
        isplitl [Hz1] <;> iassumption
      isplitl [HzS] <;> iassumption
    iapply (scratch_shut m c)
    isplitl [Hcs]; · iexact Hcs
    isplitl [Hxs]; · iexact Hxs
    isplitl [Hs0]; · iexact Hs0
    isplitl [Hs1]; · iexact Hs1
    isplitl [Hwb]; · iexact Hwb
    iexact Hws
  isplitl [HO]; · iapply (Entails.of_eq (congrArg (owesX c) (show Osum c ∅ = 0 from Finset.sum_empty))); iexact HO
  iapply (Entails.of_eq ((oPts_eq c _).trans (congrArg (fun g => (((c : Thread nD τ).loc cc0_stg0_0) ↦{fullShare} g : sProp 𝕄)) (outC_indep m c f _))))
  iexact Ho

def bodyPre (c : Dev nD) : sProp 𝕄 :=
  iprop(Φ₀ m c ∗ (dats m ρ 0 c).owesAt () t0_0.castSucc ∗ (∃ d, stg c ((dats m ρ 0 c).before (0 : Fin 1) t0_0 d)))
def bodyPost (c : Dev nD) : sProp 𝕄 :=
  iprop(Φ₁ m c ∗ (dats m ρ 0 c).owesAt () t0_0.succ ∗ stg c (outAt m c))

theorem sound_body (c : Dev nD) (Q : PUnit → sProp (MT nD τ sig Unit (Elt F) ℕ UU ℕ)) :
    iprop(bodyPre m ρ c ∗ (bodyPost m ρ c -∗ Q ⟨⟩))
      ⊢ WP c (cc0_body (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7) Q := by
  unfold bodyPre Φ₀ start G' Dat.owesAt Pipeline.owesWithin
  iintro ⟨⟨⟨⟨⟨%K, #HK, Hown⟩, #Hlev, Hcr, Hargs⟩, Hsc⟩, ⟨%W, %hW, HO⟩, ⟨%d, %f, %hf, Ho⟩⟩, Hk⟩
  iapply (body_run m K c f Q)
  isplitr
  · iapply (rec_intro m K); isplitl; · iexact HK
    iexact Hlev
  isplitr [Hk]
  · iapply (body_in m K c f)
    isplitr
    · iapply (rec_intro m K); isplitl; · iexact HK
      iexact Hlev
    isplitl [Hown]; · iexact Hown
    isplitl [Hcr]; · iexact Hcr
    isplitl [Hargs]; · iexact Hargs
    isplitl [Hsc]; · iexact Hsc
    isplitl [HO]
    · unfold owesX; iexists W
      rw [show (dats m ρ 0 c).owed t0_0.castSucc = O₀ c from rfl]
      iexact HO
    iexact Ho
  iintro H
  ihave H := (body_out m c f) $$ H
  icases H with ⟨HΦ, HO, Ho⟩
  iapply Hk
  unfold bodyPost Dat.owesAt Pipeline.owesWithin
  isplitl [HΦ]; · iexact HΦ
  isplitl [HO]
  · rw [show (dats m ρ 0 c).owed t0_0.succ = 0 from rfl]
    unfold owesX
    icases HO with ⟨%W', HO⟩
    iexists W'
    isplitr; · ipureintro; exact fun _ _ => Or.inl trivial
    iexact HO
  iexists _
  isplitr; · (ipureintro; rfl)
  iexact Ho

set_option maxHeartbeats 800000 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_stage]
  show bodyPre m ρ c ⊢ wp frame (wpE (defs₀ (F := F)) 𝒱₀ (c : Thread nD τ) none) Set.univ
    (cc0_body (F := F) xM (Memref.isWhole_whole _) wM (Memref.isWhole_whole _) oM (Memref.isWhole_whole _) gM (Memref.isWhole_whole _) bM (Memref.isWhole_whole _) lM (Memref.isWhole_whole _) wbM (Memref.isWhole_whole _) wsM (Memref.isWhole_whole _) cc0_scratch5 cc0_scratch6 cc0_scratch7)
    (fun _ => bodyPost m ρ c)
  iintro H
  iapply (sound_body m ρ c fun _ => bodyPost m ρ c)
  isplitl [H]; · iexact H
  iintro H; iexact H

/-! ## The side conditions of the launch -/

theorem ownSemFacts : Pipeline.OwnSemFacts spec0 osem := by decide

theorem share_eq (c : Dev nD) (w : Fin cfg0.W) : (dats m ρ 0 c).share w = fullShare := by unfold Dat.share; split <;> rfl

theorem start_intro (c : Dev nD) :
    iprop(Pipeline.unscopedRestP Pipeline.Prefetch.none spec0 c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  imodintro
  unfold start args
  isplitl
  · isplitl [HG]; · iexact HG
    isplitl [Hlev]; · iexact Hlev
    isplitl [Hc]; · iexact Hc
    iexact Hargs
  · iempintro

theorem phi0_intro (c : Dev nD) :
    iprop(start m c ∗ Pipeline.prefHeld Pipeline.Prefetch.none c (fun _ => fullShare.right) (fun k => k.elim0) ∗ Pipeline.scopedRest spec0 c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest spec0 c) := by
  rw [show (dats m ρ 0 c).Φ (Fin.last cfg0.N) = Φ₁ m c from rfl, ownSems_eq, barSem_eq]
  unfold Φ₁ closed
  iintro H; iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a device's final state is read for: its barrier at zero, its arguments unchanged. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_end (c : Dev nD) (s' : Phys nD τ sig (Elt F)) :
    iprop((unscopedSems0 c ∗ args m c) ∗ emp ∗ SI s') ⊢ (|={Set.univ}=> iprop(⌜QY m c s'.mem⌝ ∗ SI s') : sProp 𝕄) := by
  unfold args
  iintro ⟨⟨Hu, H0, H1⟩, -, HSI⟩
  icombine HSI H0 gives %h0
  icombine HSI H1 gives %h1
  imod (Pipeline.unscopedSems0_read (X := unscopedSems0 c) (c := c) fupd_intro s') $$ [Hu HSI] with ⟨%hz, HSI⟩
  · isplitl [Hu] <;> iassumption
  imodintro
  isplitr
  · ipureintro; exact ⟨⟨Buf.eq_of_forall_mem_univ h0, Buf.eq_of_forall_mem_univ h1⟩, hz⟩
  iexact HSI

/-! ## The run -/

def finalA (c : Dev nD) (w : Fin cfg0.W) : Buf (Elt F) ((cfg0.win w).arr.view.loc (c : Thread nD τ)) := (dats m ρ 0 c).arrAt w cfg0.N

/-- The final states: the result arrays as computed, the arguments as they were, every semaphore at zero. -/
def QC : PUnit × MemSt nD τ sig (Elt F) → Prop := fun r =>
  (∀ c : Dev nD, ∀ w : Fin cfg0.W, r.2.mem ((cfg0.win w).arr.view.loc (c : Thread nD τ)) = finalA m ρ c w)
    ∧ (∀ c : Dev nD, r.2.mem ((c : Thread nD τ).loc main_arg0) = m ((c : Thread nD τ).loc main_arg0) ∧ r.2.mem ((c : Thread nD τ).loc main_arg1) = m ((c : Thread nD τ).loc main_arg1))
    ∧ r.2.sem = fun _ => 0

set_option maxRecDepth 8000 in
/-- From any memory with zero counters every weakly fair execution of the program terminates in such a state. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := QY m) (hY := read_end m)
    (hQ := fun _ h hs => ⟨fun c w => (h c).1 w, fun c => (h c).2.2.1, sem_eq_zero hs fun c => (h c).2.2.2⟩)

end Cert.RingProof

end
-- ==== Proof.Value.lean ====
/-
What the four devices compute, over the reals: each cell of a device's result is the activation of a row of all the rows
times a column of the device's weights.
-/
module

public import proofs.«01_k».proof.Proof.Launch
public import Idealize.ShloMosaic.Lib.MatmulPlain
public import Idealize.ShloMosaic.PureOps.Ideal

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## The activation over the reals -/

/-- The activation: a number times its logistic. -/
def act (y : EReal) : EReal := y * Ideal.logistic y

theorem exp_nonneg (x : EReal) : 0 ≤ Ideal.exp x := by
  induction x with
  | bot => exact le_rfl
  | top => exact le_top
  | coe r => exact EReal.coe_nonneg.mpr (Real.exp_pos r).le

/-- Dividing by one plus the exponential is multiplying by the logistic, at the infinities too. -/
theorem act_eq_div (y : EReal) : act y = Ideal.div y (1 + Ideal.exp (-y)) := by
  have h : (1 : EReal) + Ideal.exp (-y) ≠ 0 := fun h => by
    have h1 : (1 : EReal) ≤ 1 + Ideal.exp (-y) := le_add_of_nonneg_right (exp_nonneg _)
    rw [h] at h1
    exact absurd h1 (not_le.mpr zero_lt_one)
  unfold act Ideal.logistic Ideal.div
  rw [if_neg h, if_neg h, one_mul]

/-! ## One product -/

/-- A block of rows times the weights, activated, at a cell. -/
theorem act_rows {M : ℕ} (A : FVec Ideal ⟨2, ![M, 4096]⟩ .bf16) (B : FVec Ideal ⟨2, ![4096, 512]⟩ .bf16) (a : Fin M) (b : Fin 512) :
    truncf .bf16 (mulf (matmul (DotDims.plain M 4096 512) none A B (constant ⟨2, ![M, 512]⟩ .f32 0x00000000#32))
      (logistic (matmul (DotDims.plain M 4096 512) none A B (constant ⟨2, ![M, 512]⟩ .f32 0x00000000#32)))) bitsLt_bf16_f32 (ix2 a b)
      = act (∑ k : Fin 4096, A (ix2 a k) * B (ix2 k b)) := by
  have e : matmul (DotDims.plain M 4096 512) none A B (constant ⟨2, ![M, 512]⟩ .f32 0x00000000#32) (ix2 a b)
      = ∑ k : Fin 4096, A (ix2 a k) * B (ix2 k b) := by
    refine (Ideal.matmul_plain_apply none A B _ a b).trans ?_
    show Ideal.ofBits .f32 0x00000000#32 + _ = _
    rw [Ideal.ofBits_zero_f32, zero_add]
  rw [← e]
  generalize matmul (DotDims.plain M 4096 512) none A B (constant ⟨2, ![M, 512]⟩ .f32 0x00000000#32) = P
  rfl

theorem pay7_val (A : FVec Ideal S1024x4096 .bf16) (B : FVec Ideal S4096x512 .bf16) (a : Fin 1024) (b : Fin 512) :
    k0_pay7 (F := Ideal) (k0_pay6 A B) (ix2 a b) = act (∑ k : Fin 4096, A (ix2 a k) * B (ix2 k b)) := act_rows A B a b
theorem pay8_val (A : FVec Ideal S1x512x4096 .bf16) (B : FVec Ideal S4096x512 .bf16) (a : Fin 512) (b : Fin 512) :
    k0_pay8 (F := Ideal) A B (ix2 a b) = act (∑ k : Fin 4096, A (ix3 (0 : Fin 1) a k) * B (ix2 k b)) :=
  (act_rows _ B a b).trans (congrArg act (Finset.sum_congr rfl fun k _ => by rw [shapeCast_1ab_ab_apply]))
theorem pay10_val (A : FVec Ideal S1x256x4096 .bf16) (B : FVec Ideal S4096x512 .bf16) (a : Fin 256) (b : Fin 512) :
    k0_pay10 (F := Ideal) A B (ix2 a b) = act (∑ k : Fin 4096, A (ix3 (0 : Fin 1) a k) * B (ix2 k b)) :=
  (act_rows _ B a b).trans (congrArg act (Finset.sum_congr rfl fun k _ => by rw [shapeCast_1ab_ab_apply]))

/-! ## What the rows and the weights read -/

variable (m : (ℓ : Loc nD τ sig) → Buf (Elt Ideal) ℓ)

theorem wbF_val (c : Dev nD) (k : Fin 4096) (b : Fin 512) : wbF m c (ix2 k b) = Wc m c (ix2 k b) := by
  unfold wbF k0_pay5
  exact congrFun (shapeCast_self _ _) _

/-- The rows all devices hold together: row `n` is row `n % 1024` of device `n / 1024`. -/
def Xall (n : Fin 4096) (k : Fin 4096) : EReal :=
  Xc m ⟨n.val / 1024, by have := n.isLt; show _ < 4; omega⟩ (ix2 (⟨n.val % 1024, Nat.mod_lt _ (by decide)⟩ : Fin 1024) k)

theorem Xall_at (d : Dev nD) (r : Fin 1024) (n : Fin 4096) (h : n.val = 1024 * d.val + r.val) (k : Fin 4096) :
    Xc m d (ix2 r k) = Xall m n k := by
  unfold Xall
  have hr := r.isLt
  have e1 : (⟨n.val / 1024, by have := n.isLt; show _ < 4; omega⟩ : Dev nD) = d := Fin.ext (by show n.val / 1024 = d.val; omega)
  have e2 : (⟨n.val % 1024, Nat.mod_lt _ (by decide)⟩ : Fin 1024) = r := Fin.ext (by show n.val % 1024 = r.val; omega)
  rw [e1, e2]

/-- The cell of `c`'s result in row `n`, column `b`. -/
def cell (c : Dev nD) (n : Fin 4096) (b : Fin 512) : EReal := act (∑ k : Fin 4096, Xall m n k * Wc m c (ix2 k b))

theorem comm_val (c : Dev nD) (l : Fin 3) (r : Fin 1024) (n : Fin 4096) (h : n.val = 1024 * (from3 c l).val + r.val) (k : Fin 4096) :
    commF m c (ix3 l r k) = Xall m n k := Xall_at m (from3 c l) r n h k

/-! ## The blocks, by size -/

theorem cell_1024 (c : Dev nD) {off : Fin 2 → ℕ} {inb : ∀ a, off a + S1024x512.size a ≤ S4096x512.size a} (ho : off = ![1024 * c.val, 0])
    (y : S1024x512.Idx) (i : S4096x512.Idx) (hy : (Rect.unit (s := S4096x512) off S1024x512.size inb).emb y = i) :
    k0_pay7 (k0_pay6 (xbF m c) (wbF m c)) y = cell m c (i 0) (i 1) := by
  subst ho; subst hy
  rw [eq_ix2 y]
  refine (pay7_val _ _ _ _).trans (congrArg act (Finset.sum_congr rfl fun k _ => ?_))
  refine congrArg₂ (· * ·) (Xall_at m c (y 0) _ ?_ k) ((wbF_val m c k (y 1)).trans (congrArg (fun b => Wc m c (ix2 k b)) (Fin.ext ?_)))
  · show 1024 * c.val + 1 * (y 0).val = _; rw [Nat.one_mul]
  · show (y 1).val = 0 + 1 * (y 1).val; rw [Nat.one_mul, Nat.zero_add]

theorem cell_512 (c : Dev nD) (l : Fin 3) (o : ℕ) (A : FVec Ideal S1x512x4096 .bf16) (hA : ∀ a k (r : Fin 1024), r.val = o + a.val → A (ix3 (0 : Fin 1) a k) = commF m c (ix3 l r k))
    (hle : o + 512 ≤ 1024) {off : Fin 2 → ℕ} {inb : ∀ a, off a + S512x512.size a ≤ S4096x512.size a} (ho : off = ![1024 * (from3 c l).val + o, 0])
    (y : S512x512.Idx) (i : S4096x512.Idx) (hy : (Rect.unit (s := S4096x512) off S512x512.size inb).emb y = i) :
    k0_pay8 A (wbF m c) y = cell m c (i 0) (i 1) := by
  subst ho; subst hy
  rw [eq_ix2 y]
  have h0 : (y 0).val < 512 := (y 0).isLt
  refine (pay8_val _ _ _ _).trans (congrArg act (Finset.sum_congr rfl fun k _ => ?_))
  refine congrArg₂ (· * ·) ((hA (y 0) k ⟨o + (y 0).val, by omega⟩ rfl).trans (comm_val m c l _ _ ?_ k)) ((wbF_val m c k (y 1)).trans (congrArg (fun b => Wc m c (ix2 k b)) (Fin.ext ?_)))
  · show 1024 * (from3 c l).val + o + 1 * (y 0).val = 1024 * (from3 c l).val + (o + (y 0).val); omega
  · show (y 1).val = 0 + 1 * (y 1).val; rw [Nat.one_mul, Nat.zero_add]

theorem rowsOf_val (c : Dev nD) (j : Fin 12) (a : Fin 256) (k : Fin 4096) (r : Fin 1024) (h : r.val = row j + a.val) :
    rowsOf m c j (ix3 (0 : Fin 1) a k) = commF m c (ix3 (⟨lay j, lay_lt j⟩ : Fin 3) r k) := by
  refine congrArg (commF m c) (funext fun b => Fin.ext ?_)
  fin_cases b
  · show lay j + 1 * 0 = lay j; omega
  · show row j + 1 * a.val = r.val; omega
  · show 0 + 1 * k.val = k.val; omega

theorem rowsL_val (c : Dev nD) (a : Fin 512) (k : Fin 4096) (r : Fin 1024) (h : r.val = 0 + a.val) :
    rowsL m c (ix3 (0 : Fin 1) a k) = commF m c (ix3 (0 : Fin 3) r k) := by
  refine congrArg (commF m c) (funext fun b => Fin.ext ?_)
  fin_cases b
  · rfl
  · show 0 + 1 * a.val = r.val; omega
  · show 0 + 1 * k.val = k.val; omega

theorem rowsR_val (c : Dev nD) (a : Fin 512) (k : Fin 4096) (r : Fin 1024) (h : r.val = 512 + a.val) :
    rowsR m c (ix3 (0 : Fin 1) a k) = commF m c (ix3 (1 : Fin 3) r k) := by
  refine congrArg (commF m c) (funext fun b => Fin.ext ?_)
  fin_cases b
  · rfl
  · show 512 + 1 * a.val = r.val; omega
  · show 0 + 1 * k.val = k.val; omega

theorem cell_256 (c : Dev nD) (j : Fin 12) {off : Fin 2 → ℕ} {inb : ∀ a, off a + S256x512.size a ≤ S4096x512.size a}
    (ho : off = ![1024 * (from3 c ⟨lay j, lay_lt j⟩).val + row j, 0])
    (y : S256x512.Idx) (i : S4096x512.Idx) (hy : (Rect.unit (s := S4096x512) off S256x512.size inb).emb y = i) :
    k0_pay10 (rowsOf m c j) (wbF m c) y = cell m c (i 0) (i 1) := by
  subst ho; subst hy
  rw [eq_ix2 y]
  have h0 : (y 0).val < 256 := (y 0).isLt
  have hj := row_le j
  refine (pay10_val _ _ _ _).trans (congrArg act (Finset.sum_congr rfl fun k _ => ?_))
  refine congrArg₂ (· * ·) ((rowsOf_val m c j (y 0) k ⟨row j + (y 0).val, by omega⟩ rfl).trans (comm_val m c _ _ _ ?_ k)) ((wbF_val m c k (y 1)).trans (congrArg (fun b => Wc m c (ix2 k b)) (Fin.ext ?_)))
  · show 1024 * (from3 c ⟨lay j, lay_lt j⟩).val + row j + 1 * (y 0).val = 1024 * (from3 c ⟨lay j, lay_lt j⟩).val + (row j + (y 0).val); omega
  · show (y 1).val = 0 + 1 * (y 1).val; rw [Nat.one_mul, Nat.zero_add]

/-! ## The whole output -/

theorem outC_val (c : Dev nD) (f : Vec Ideal S4096x512 .bf16) (i : S4096x512.Idx) : outC m c f i = cell m c (i 0) (i 1) := by
  unfold outC
  exact put_val (fun y hy => cell_256 m c 4 (off11_eq c) y i hy) fun h11 =>
    put_val (fun y hy => cell_256 m c 3 (off10_eq c) y i hy) fun h10 =>
    put_val (fun y hy => cell_256 m c 11 (off9_eq c) y i hy) fun h9 =>
    put_val (fun y hy => cell_256 m c 9 (off8_eq c) y i hy) fun h8 =>
    put_val (fun y hy => cell_256 m c 10 (off7_eq c) y i hy) fun h7 =>
    put_val (fun y hy => cell_256 m c 8 (off6_eq c) y i hy) fun h6 =>
    put_val (fun y hy => cell_256 m c 5 (off5_eq c) y i hy) fun h5 =>
    put_val (fun y hy => cell_256 m c 2 (off4_eq c) y i hy) fun h4 =>
    put_val (fun y hy => cell_512 m c 1 512 _ (rowsR_val m c) (by decide) (off3_eq c) y i hy) fun h3 =>
    put_val (fun y hy => cell_512 m c 0 0 _ (rowsL_val m c) (by decide) (off2_eq c) y i hy) fun h2 =>
    put_val (fun y hy => cell_1024 m c (off1_eq c) y i hy) fun h1 => (blocks_cover c i h1 h2 h3 h4 h5 h6 h7 h8 h9 h10 h11).elim

end Cert.RingProof
-- ==== Proof.Claims.lean ====
/-
The claims: both programs keep their arguments and end with every counter at zero, and over the reals each device's
result is its block of the reference's.
-/
module

public import proofs.«01_k».proof.Proof.Value
public import proofs.«01_k».proof.Defs
public import proofs.«01_k».proof.Proof.Gen.Kernel
public import proofs.«01_k».proof.Proof.Gen.ReferenceIdeal.Run
public import Idealize.ShloMosaic.Lib.Quiescent
public import Idealize.ShloMosaic.Lib.IdealHost
public import proofs.«01_k».proof.Proof.Gen.KernelIdeal.Points

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## The arguments and the counters -/

/-- The run, with the result's contents dropped, over any float values. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => h.2.1 c, h.2.2⟩) (run_main m ρ)

/-- The two programs have the same body table, -/
theorem defs₀_eq {F : FTy → Type} [FloatOps F] : Cert.Kernel.defs₀ (F := F) = defs₀ := by
  refine congrArg (Defs.onTc (nD := nD) (τ := τ) (sig := sig) (Val := Elt F) (Λ := Λ₀)) ?_
  funext l a
  match l, a with
  | 0, (t, s) => rfl
/-- and so the same code. -/
theorem defs_eq {F : FTy → Type} [FloatOps F] : Cert.Kernel.defs (F := F) = defs := congrArg (Pipeline.defs pcfgs) defs₀_eq

theorem frame_kernel : Cert.quiescent_Kernel := fun m ρ _ => by
  have h := frame_any (F := Bits) m ρ
  rw [← defs_eq] at h
  exact h
theorem frame_ideal : Cert.quiescent_KernelIdeal := fun m ρ _ => frame_any (F := Ideal) m ρ

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The result's array -/

section Result

variable {F : FTy → Type} [FloatOps F] (m : (ℓ : Loc nD τ sig) → Buf (Elt F) ℓ) (ρ : Dev nD → PrngReg)

/-- What the body leaves in the staging buffer. -/
theorem after_out (c : Dev nD) : (dats m ρ 0 c).after (0 : Fin 1) t0_0 = outAt m c := by
  unfold dats
  rfl

/-- The one write-back covers the result: the array ends with what the body left. -/
theorem arrAt_whole (c : Dev nD) (dat : Dat τ (Elt F) Unit ℕ UU ℕ cfg0 c) (G : Vec F S4096x512 .bf16)
    (h : dat.after (0 : Fin 1) t0_0 = G) : dat.arrAt (0 : Fin 1) cfg0.N = G := by
  have hz : (fun a => win0_0.index t0_0 a * main_v1.ty.shape.size a) = fun _ => 0 := funext fun a => by fin_cases a <;> decide
  rw [show cfg0.N = (t0_0 : Fin cfg0.N).val + 1 from rfl, dat.arrAt_succ (0 : Fin 1) t0_0, if_pos (flush0_0 t0_0)]
  unfold Dat.flushed
  rw [h]
  exact Memref.write_access_unit_zero_univ (Elt F) main_v1 hz (fun a => by fin_cases a <;> decide) _ G

/-- So each device's result is its output block. -/
theorem finalA_out (c : Dev nD) : finalA m ρ c (0 : Fin 1) = outAt m c := by
  unfold finalA
  exact arrAt_whole c _ _ (after_out m ρ c)

end Result

/-! ## The reference at a cell -/

/-- The reference's result, as its run states it. -/
def refOut (X : FVec Ideal ⟨2, ![4096, 4096]⟩ .f32) (W : FVec Ideal ⟨2, ![4096, 2048]⟩ .f32) : FVec Ideal ⟨2, ![4096, 2048]⟩ .bf16 :=
  truncf .bf16 (Host.divf (Host.dotGeneral (DotDims.plain 4096 4096 2048) none X W)
    (addf (broadcastInDim ⟨2, ![4096, 2048]⟩ ![] Cert.ReferenceIdeal.Facts₀.bcast_S_S4096x2048 (constant Cert.ReferenceIdeal.S_ .f32 0x3F800000#32))
      (Host.exp (Host.negf (Host.dotGeneral (DotDims.plain 4096 4096 2048) none X W))))) bitsLt_bf16_f32

theorem refOut_val (X : FVec Ideal ⟨2, ![4096, 4096]⟩ .f32) (W : FVec Ideal ⟨2, ![4096, 2048]⟩ .f32) (n : Fin 4096) (q : Fin 2048) :
    refOut X W (ix2 n q) = act (∑ k : Fin 4096, X (ix2 n k) * W (ix2 k q)) := by
  have e : Host.dotGeneral (DotDims.plain 4096 4096 2048) none X W (ix2 n q) = ∑ k : Fin 4096, X (ix2 n k) * W (ix2 k q) :=
    (Ideal.matmul_plain_apply none X W (fun _ => 0) n q).trans (zero_add _)
  unfold refOut
  rw [act_eq_div, ← e]
  generalize Host.dotGeneral (DotDims.plain 4096 4096 2048) none X W = P
  show Ideal.div (P (ix2 n q)) (Ideal.ofBits .f32 0x3F800000#32 + Ideal.exp (-(P (ix2 n q)))) = _
  rw [Ideal.ofBits_one_f32]

/-! ## The value -/

section Value

variable (m : (ℓ : Loc nD τ sig) → Buf (Elt Ideal) ℓ) (X : FVec Ideal ⟨2, ![4096, 4096]⟩ .f32) (W : FVec Ideal ⟨2, ![4096, 2048]⟩ .f32)

theorem Xall_whole (hX : ∀ c, Xc m c = Layout.block ⟨2, ![1024, 4096]⟩ ⟨2, ![4096, 4096]⟩ 0 4 c X) (n k : Fin 4096) : Xall m n k = X (ix2 n k) := by
  unfold Xall
  rw [hX]
  refine congrArg X (funext fun b => Fin.ext ?_)
  match b with
  | ⟨0, _⟩ => show n.val / 1024 * 1024 + n.val % 1024 = n.val; omega
  | ⟨1, _⟩ => rfl

theorem block_val (hX : ∀ c, Xc m c = Layout.block ⟨2, ![1024, 4096]⟩ ⟨2, ![4096, 4096]⟩ 0 4 c X)
    (hW : ∀ c, Wc m c = Layout.block ⟨2, ![4096, 512]⟩ ⟨2, ![4096, 2048]⟩ 1 4 c W) (c : Dev nD) :
    outAt m c = Layout.block ⟨2, ![4096, 512]⟩ ⟨2, ![4096, 2048]⟩ 1 4 c (refOut X W) := by
  funext i
  refine (outC_val m c _ i).trans ?_
  rw [Layout.block_apply]
  refine Eq.trans ?_ (congrArg (refOut X W) (eq_ix2 (Layout.Tiles.idx _ c i)).symm)
  refine Eq.trans ?_ (refOut_val X W _ _).symm
  refine congrArg act (Finset.sum_congr rfl fun k _ => ?_)
  refine congrArg₂ (· * ·) ((Xall_whole m X hX _ k).trans (congrArg X (funext fun b => Fin.ext ?_)))
    ((congrFun (hW c) _).trans (congrArg W (funext fun b => Fin.ext ?_))) <;>
  · match b with
    | ⟨0, _⟩ => rfl
    | ⟨1, _⟩ => rfl

end Value

theorem algebraic : Cert.algebraic_KernelIdeal_ReferenceIdeal := fun m ρ m' ρ' _ hag =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (0 : Fin 1)).trans (finalA_out m ρ c)).trans (block_val m _ _ (fun c => (hag c).1) (fun c => (hag c).2) c), h.2.1 c⟩)
      (run_main (F := Ideal) m ρ),
    (θ_run Cert.ReferenceIdeal.defs _ _).mono (fun _ h => h 0) (Cert.ReferenceIdeal.Value.run (F := Ideal) m' ρ')⟩

end Cert.RingProof
-- ==== Proof.lean ====
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingProof.frame_kernel, Cert.RingProof.frame_ideal, Cert.RingProof.frame_ref, trivial, Cert.RingProof.algebraic⟩

end Cert.Proof

end
